-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "neg_two_log2e" .f32 0xC038AA3B#32 (((-2) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x8 : Shape := ⟨2, ![8192, 8]⟩
abbrev S8192x1 : Shape := ⟨2, ![8192, 1]⟩
abbrev S64x8 : Shape := ⟨2, ![64, 8]⟩
abbrev S64 : Shape := ⟨1, ![64]⟩
abbrev S128x64 : Shape := ⟨2, ![128, 64]⟩
abbrev S128 : Shape := ⟨1, ![128]⟩
abbrev S4x128 : Shape := ⟨2, ![4, 128]⟩
abbrev S4 : Shape := ⟨1, ![4]⟩
abbrev S1x4 : Shape := ⟨2, ![1, 4]⟩
abbrev S1 : Shape := ⟨1, ![1]⟩
abbrev S4x1 : Shape := ⟨2, ![4, 1]⟩
abbrev S1024x1024 : Shape := ⟨2, ![1024, 1024]⟩
abbrev S1024 : Shape := ⟨1, ![1024]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_
  bcast_S_S4x1 : S_.BroadcastsInDim S4x1 (![] : Fin 0 → Fin S4x1.rank)
  reducesTo_S4x1_S_d0_1 : S4x1.ReducesTo [0, 1] S_

variable [Facts]

def fn_part4 {F : FTy → Type} [FloatOps F] (main_arg14 : FVec F S4 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  main_v73

def fn_part3 {F : FTy → Type} [FloatOps F] (main_arg11 : FVec F S4x1 .f32) (main_arg12 : FVec F S4 .f32) (main_arg13 : FVec F S4x1 .f32) (main_arg14 : FVec F S4 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S4x1 .f32 := Host.absf main_arg11
  let main_cst_20 : FVec F S_ .f32 := constant S_ .f32 0x7F800000#32
  let main_v55 : FVec F S4x1 .f32 := broadcastInDim S4x1 ![] bcast_S_S4x1 main_cst_20
  let main_v56 : IVec S4x1 1 := cmpf .olt main_v54 main_v55
  let main_c_21 : IVec S_ 1 := constantI S_ 1 1#1
  let main_v57 : IVec S_ 1 := (fun x v => Host.reduce IntOp.andi x v reducesTo_S4x1_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x1 .f32 := Host.absf main_arg13
  let main_cst_24 : FVec F S_ .f32 := constant S_ .f32 0x7F800000#32
  let main_v65 : FVec F S4x1 .f32 := broadcastInDim S4x1 ![] bcast_S_S4x1 main_cst_24
  let main_v66 : IVec S4x1 1 := cmpf .olt main_v64 main_v65
  let main_c_25 : IVec S_ 1 := constantI S_ 1 1#1
  let main_v67 : IVec S_ 1 := (fun x v => Host.reduce IntOp.andi x v reducesTo_S4x1_S_d0_1 h_S_) main_v66 main_c_25
  fn_part4 (F := F) main_arg14 main_v63 main_v67

def fn_part2 {F : FTy → Type} [FloatOps F] (main_arg7 : FVec F S4x128 .f32) (main_arg8 : FVec F S4 .f32) (main_arg9 : FVec F S1x4 .f32) (main_arg10 : FVec F S1 .f32) (main_arg11 : FVec F S4x1 .f32) (main_arg12 : FVec F S4 .f32) (main_arg13 : FVec F S4x1 .f32) (main_arg14 : FVec F S4 .f32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S1x4 .f32 := Host.absf main_arg9
  let main_cst_16 : FVec F S_ .f32 := constant S_ .f32 0x7F800000#32
  let main_v45 : FVec F S1x4 .f32 := broadcastInDim S1x4 ![] bcast_S_S1x4 main_cst_16
  let main_v46 : IVec S1x4 1 := cmpf .olt main_v44 main_v45
  let main_c_17 : IVec S_ 1 := constantI S_ 1 1#1
  let main_v47 : IVec S_ 1 := (fun x v => Host.reduce IntOp.andi x v reducesTo_S1x4_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_v48 main_v49 main_v50

def fn_part1 {F : FTy → Type} [FloatOps F] (main_arg4 : FVec F S64 .f32) (main_arg5 : FVec F S128x64 .f32) (main_arg6 : FVec F S128 .f32) (main_arg7 : FVec F S4x128 .f32) (main_arg8 : FVec F S4 .f32) (main_arg9 : FVec F S1x4 .f32) (main_arg10 : FVec F S1 .f32) (main_arg11 : FVec F S4x1 .f32) (main_arg12 : FVec F S4 .f32) (main_arg13 : FVec F S4x1 .f32) (main_arg14 : FVec F S4 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x8 .f32) (main_arg1 : FVec F S8192x1 .f32) (main_arg2 : FVec F S8192x1 .f32) (main_arg3 : FVec F S64x8 .f32) (main_arg4 : FVec F S64 .f32) (main_arg5 : FVec F S128x64 .f32) (main_arg6 : FVec F S128 .f32) (main_arg7 : FVec F S4x128 .f32) (main_arg8 : FVec F S4 .f32) (main_arg9 : FVec F S1x4 .f32) (main_arg10 : FVec F S1 .f32) (main_arg11 : FVec F S4x1 .f32) (main_arg12 : FVec F S4 .f32) (main_arg13 : FVec F S4x1 .f32) (main_arg14 : FVec F S4 .f32) (main_arg15 : FVec F S1024x1024 .f32) (main_arg16 : FVec F S1024 .f32) : IVec S_ 1 :=
  let main_v0 : FVec F S8192x8 .f32 := Host.absf main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x8 : Shape := ⟨2, ![8192, 8]⟩
abbrev S8192x1 : Shape := ⟨2, ![8192, 1]⟩
abbrev S64x8 : Shape := ⟨2, ![64, 8]⟩
abbrev S64 : Shape := ⟨1, ![64]⟩
abbrev S128x64 : Shape := ⟨2, ![128, 64]⟩
abbrev S128 : Shape := ⟨1, ![128]⟩
abbrev S4x128 : Shape := ⟨2, ![4, 128]⟩
abbrev S4 : Shape := ⟨1, ![4]⟩
abbrev S1x4 : Shape := ⟨2, ![1, 4]⟩
abbrev S1 : Shape := ⟨1, ![1]⟩
abbrev S4x1 : Shape := ⟨2, ![4, 1]⟩
abbrev S1024x1024 : Shape := ⟨2, ![1024, 1024]⟩
abbrev S1024 : Shape := ⟨1, ![1024]⟩
abbrev S8x64 : Shape := ⟨2, ![8, 64]⟩
abbrev S1x64 : Shape := ⟨2, ![1, 64]⟩
abbrev S64x128 : Shape := ⟨2, ![64, 128]⟩
abbrev S1x128 : Shape := ⟨2, ![1, 128]⟩
abbrev S128x4 : Shape := ⟨2, ![128, 4]⟩
abbrev S1x1 : Shape := ⟨2, ![1, 1]⟩
abbrev S4096x8 : Shape := ⟨2, ![4096, 8]⟩
abbrev S4096x1 : Shape := ⟨2, ![4096, 1]⟩
abbrev S4096x64 : Shape := ⟨2, ![4096, 64]⟩
abbrev S4096x128 : Shape := ⟨2, ![4096, 128]⟩
abbrev S4096x4 : Shape := ⟨2, ![4096, 4]⟩
abbrev S3x4 : Shape := ⟨2, ![3, 4]⟩
abbrev S1x1024 : Shape := ⟨2, ![1, 1024]⟩
abbrev S8192x1024 : Shape := ⟨2, ![8192, 1024]⟩
abbrev S32x128 : Shape := ⟨2, ![32, 128]⟩
abbrev S1024x256 : Shape := ⟨2, ![1024, 256]⟩
abbrev S1x256 : Shape := ⟨2, ![1, 256]⟩
abbrev S4096x256 : Shape := ⟨2, ![4096, 256]⟩
abbrev S1024x32x128 : Shape := ⟨3, ![1024, 32, 128]⟩
abbrev S32x1024x128 : Shape := ⟨3, ![32, 1024, 128]⟩
abbrev S_ : Shape := ⟨0, ![]⟩
abbrev S1x32x128 : Shape := ⟨3, ![1, 32, 128]⟩
abbrev S1x256x128 : Shape := ⟨3, ![1, 256, 128]⟩
abbrev S256x128 : Shape := ⟨2, ![256, 128]⟩
abbrev S256x1x128 : Shape := ⟨3, ![256, 1, 128]⟩
abbrev S1x1024x128 : Shape := ⟨3, ![1, 1024, 128]⟩
abbrev S1024x128 : Shape := ⟨2, ![1024, 128]⟩
abbrev S128x256 : Shape := ⟨2, ![128, 256]⟩

abbrev nBuf : Space → Nat
  | .hbm => 39
  | .vmem => 26
  | .smem => 1
  | _ => 0

abbrev bufTy : (tb : Table) → Fin (tcTables nBuf tb) → BufTy
  | .hbm, ⟨0, _⟩ => ⟨S8192x8, .f32⟩
  | .hbm, ⟨1, _⟩ => ⟨S8192x1, .f32⟩
  | .hbm, ⟨2, _⟩ => ⟨S8192x1, .f32⟩
  | .hbm, ⟨3, _⟩ => ⟨S64x8, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S4x128, .f32⟩
  | .hbm, ⟨8, _⟩ => ⟨S4, .f32⟩
  | .hbm, ⟨9, _⟩ => ⟨S1x4, .f32⟩
  | .hbm, ⟨10, _⟩ => ⟨S1, .f32⟩
  | .hbm, ⟨11, _⟩ => ⟨S4x1, .f32⟩
  | .hbm, ⟨12, _⟩ => ⟨S4, .f32⟩
  | .hbm, ⟨13, _⟩ => ⟨S4x1, .f32⟩
  | .hbm, ⟨14, _⟩ => ⟨S4, .f32⟩
  | .hbm, ⟨15, _⟩ => ⟨S1024x1024, .f32⟩
  | .hbm, ⟨16, _⟩ => ⟨S1024, .f32⟩
  | .hbm, ⟨17, _⟩ => ⟨S8x64, .f32⟩
  | .hbm, ⟨18, _⟩ => ⟨S1x64, .f32⟩
  | .hbm, ⟨19, _⟩ => ⟨S64x128, .f32⟩
  | .hbm, ⟨20, _⟩ => ⟨S1x128, .f32⟩
  | .hbm, ⟨21, _⟩ => ⟨S128x4, .f32⟩
  | .hbm, ⟨22, _⟩ => ⟨S1x4, .f32⟩
  | .hbm, ⟨23, _⟩ => ⟨S4x1, .f32⟩
  | .hbm, ⟨24, _⟩ => ⟨S1x1, .f32⟩
  | .hbm, ⟨25, _⟩ => ⟨S8192x1, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S1x4, .f32⟩
  | .hbm, ⟨30, _⟩ => ⟨S1x4, .f32⟩
  | .hbm, ⟨31, _⟩ => ⟨S1x4, .f32⟩
  | .hbm, ⟨32, _⟩ => ⟨S3x4, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S1024x1024, .f32⟩
  | .hbm, ⟨37, _⟩ => ⟨S1x1024, .f32⟩
  | .hbm, ⟨38, _⟩ => ⟨S8192x1024, .f32⟩
  | .local _ .vmem, ⟨0, _⟩ => ⟨S4096x8, .f32⟩
  | .local _ .vmem, ⟨1, _⟩ => ⟨S4096x8, .f32⟩
  | .local _ .vmem, ⟨2, _⟩ => ⟨S8x64, .f32⟩
  | .local _ .vmem, ⟨3, _⟩ => ⟨S1x64, .f32⟩
  | .local _ .vmem, ⟨4, _⟩ => ⟨S64x128, .f32⟩
  | .local _ .vmem, ⟨5, _⟩ => ⟨S1x128, .f32⟩
  | .local _ .vmem, ⟨6, _⟩ => ⟨S128x4, .f32⟩
  | .local _ .vmem, ⟨7, _⟩ => ⟨S1x4, .f32⟩
  | .local _ .vmem, ⟨8, _⟩ => ⟨S4x1, .f32⟩
  | .local _ .vmem, ⟨9, _⟩ => ⟨S1x1, .f32⟩
  | .local _ .vmem, ⟨10, _⟩ => ⟨S4096x1, .f32⟩
  | .local _ .vmem, ⟨11, _⟩ => ⟨S4096x1, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S1024x256, .f32⟩
  | .local _ .vmem, ⟨19, _⟩ => ⟨S1024x256, .f32⟩
  | .local _ .vmem, ⟨20, _⟩ => ⟨S1x256, .f32⟩
  | .local _ .vmem, ⟨21, _⟩ => ⟨S1x256, .f32⟩
  | .local _ .vmem, ⟨22, _⟩ => ⟨S4096x256, .f32⟩
  | .local _ .vmem, ⟨23, _⟩ => ⟨S4096x256, .f32⟩
  | .local _ .vmem, ⟨24, _⟩ => ⟨S1024x32x128, .f32⟩
  | .local _ .vmem, ⟨25, _⟩ => ⟨S32x1024x128, .f32⟩
  | .local _ .smem, ⟨0, _⟩ => ⟨S3x4, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c1_i32 : BitVec 32 := 1#32
  let c255_i32 : BitVec 32 := 255#32
  let v294 : BitVec 32 := Scalar.addi c1_i32 c255_i32
  let c1_i32_181 : BitVec 32 := 1#32
  ⟨c1_i32, v294, c1_i32_181⟩
def k1_off1 (k1_t1 : Fin k1_t1_loop.trips) : Fin 3 → Nat :=
  let c1_i32 : BitVec 32 := 1#32
  let c1_i32_181 : BitVec 32 := 1#32
  let arg12 : BitVec 32 := Scf.iv c1_i32 c1_i32_181 k1_t1
  let v1384 : Index := Scalar.indexCast arg12
  let c0_1713 : Index := 0#32
  let c0_1714 : Index := 0#32
  ![v1384.toNat, 0, 0]
@[reducible] def k1_t2_loop : Scf.Loop 32 :=
  let c256_i32 : BitVec 32 := 256#32
  let c256_i32_345 : BitVec 32 := 256#32
  let v424 : BitVec 32 := Scalar.addi c256_i32 c256_i32_345
  let c1_i32_346 : BitVec 32 := 1#32
  ⟨c256_i32, v424, c1_i32_346⟩
def k1_off2 (k1_t2 : Fin k1_t2_loop.trips) : Fin 3 → Nat :=
  let c256_i32 : BitVec 32 := 256#32
  let c1_i32_346 : BitVec 32 := 1#32
  let arg12 : BitVec 32 := Scf.iv c256_i32 c1_i32_346 k1_t2
  let v1384 : Index := Scalar.indexCast arg12
  let c0_1713 : Index := 0#32
  let c0_1714 : Index := 0#32
  ![v1384.toNat, 0, 0]
@[reducible] def k1_t3_loop : Scf.Loop 32 :=
  let c512_i32 : BitVec 32 := 512#32
  let c256_i32_540 : BitVec 32 := 256#32
  let v554 : BitVec 32 := Scalar.addi c512_i32 c256_i32_540
  let c1_i32_541 : BitVec 32 := 1#32
  ⟨c512_i32, v554, c1_i32_541⟩
def k1_off3 (k1_t3 : Fin k1_t3_loop.trips) : Fin 3 → Nat :=
  let c512_i32 : BitVec 32 := 512#32
  let c1_i32_541 : BitVec 32 := 1#32
  let arg12 : BitVec 32 := Scf.iv c512_i32 c1_i32_541 k1_t3
  let v1384 : Index := Scalar.indexCast arg12
  let c0_1713 : Index := 0#32
  let c0_1714 : Index := 0#32
  ![v1384.toNat, 0, 0]
@[reducible] def k1_t4_loop : Scf.Loop 32 :=
  let c768_i32 : BitVec 32 := 768#32
  let c256_i32_735 : BitVec 32 := 256#32
  let v684 : BitVec 32 := Scalar.addi c768_i32 c256_i32_735
  let c1_i32_736 : BitVec 32 := 1#32
  ⟨c768_i32, v684, c1_i32_736⟩
def k1_off4 (k1_t4 : Fin k1_t4_loop.trips) : Fin 3 → Nat :=
  let c768_i32 : BitVec 32 := 768#32
  let c1_i32_736 : BitVec 32 := 1#32
  let arg12 : BitVec 32 := Scf.iv c768_i32 c1_i32_736 k1_t4
  let v1384 : Index := Scalar.indexCast arg12
  let c0_1713 : Index := 0#32
  let c0_1714 : Index := 0#32
  ![v1384.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S3x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S4096x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "neg_log2e" => some ((-((Real.log 2)⁻¹) : ℝ) : EReal)
  | "neg_two_log2e" => some (((-2) * (Real.log 2)⁻¹ : ℝ) : EReal)
  | _ => none
-- ==== ReferenceIdeal.lean ====
abbrev S8192x8 : Shape := ⟨2, ![8192, 8]⟩
abbrev S8192x1 : Shape := ⟨2, ![8192, 1]⟩
abbrev S64x8 : Shape := ⟨2, ![64, 8]⟩
abbrev S64 : Shape := ⟨1, ![64]⟩
abbrev S128x64 : Shape := ⟨2, ![128, 64]⟩
abbrev S128 : Shape := ⟨1, ![128]⟩
abbrev S4x128 : Shape := ⟨2, ![4, 128]⟩
abbrev S4 : Shape := ⟨1, ![4]⟩
abbrev S1x4 : Shape := ⟨2, ![1, 4]⟩
abbrev S1 : Shape := ⟨1, ![1]⟩
abbrev S4x1 : Shape := ⟨2, ![4, 1]⟩
abbrev S1024x1024 : Shape := ⟨2, ![1024, 1024]⟩
abbrev S1024 : Shape := ⟨1, ![1024]⟩
abbrev S8x64 : Shape := ⟨2, ![8, 64]⟩
abbrev S8192x64 : Shape := ⟨2, ![8192, 64]⟩
abbrev S1x64 : Shape := ⟨2, ![1, 64]⟩
abbrev S_ : Shape := ⟨0, ![]⟩
abbrev S64x128 : Shape := ⟨2, ![64, 128]⟩
abbrev S8192x128 : Shape := ⟨2, ![8192, 128]⟩
abbrev S1x128 : Shape := ⟨2, ![1, 128]⟩
abbrev S128x4 : Shape := ⟨2, ![128, 4]⟩
abbrev S8192x4 : Shape := ⟨2, ![8192, 4]⟩
abbrev S1x1 : Shape := ⟨2, ![1, 1]⟩
abbrev S1024x8192 : Shape := ⟨2, ![1024, 8192]⟩
abbrev S8192 : Shape := ⟨1, ![8192]⟩
abbrev S1x8192 : Shape := ⟨2, ![1, 8192]⟩
abbrev S8192x1024 : Shape := ⟨2, ![8192, 1024]⟩
abbrev S1x1024 : Shape := ⟨2, ![1, 1024]⟩

abbrev nBuf : Space → Nat
  | .hbm => 133
  | .vmem => 0
  | .smem => 0
  | _ => 0

abbrev hbmTy0_0 (i : Nat) : BufTy := match i % 128 with
  | 0 => ⟨S8192x8, .f32⟩
  | 1 => ⟨S8192x1, .f32⟩
  | 2 => ⟨S8192x1, .f32⟩
  | 3 => ⟨S64x8, .f32⟩
  | 4 => ⟨S64, .f32⟩
  | 5 => ⟨S128x64, .f32⟩
  | 6 => ⟨S128, .f32⟩
  | 7 => ⟨S4x128, .f32⟩
  | 8 => ⟨S4, .f32⟩
  | 9 => ⟨S1x4, .f32⟩
  | 10 => ⟨S1, .f32⟩
  | 11 => ⟨S4x1, .f32⟩
  | 12 => ⟨S4, .f32⟩
  | 13 => ⟨S4x1, .f32⟩
  | 14 => ⟨S4, .f32⟩
  | 15 => ⟨S1024x1024, .f32⟩
  | 16 => ⟨S1024, .f32⟩
  | 17 => ⟨S8x64, .f32⟩
  | 18 => ⟨S8192x64, .f32⟩
  | 19 => ⟨S1x64, .f32⟩
  | 20 => ⟨S8192x64, .f32⟩
  | 21 => ⟨S8192x64, .f32⟩
  | 22 => ⟨S_, .f32⟩
  | 23 => ⟨S8192x64, .f32⟩
  | 24 => ⟨S8192x64, .i1⟩
  | 25 => ⟨S_, .f32⟩
  | 26 => ⟨S8192x64, .f32⟩
  | 27 => ⟨S8192x64, .f32⟩
  | 28 => ⟨S8192x64, .f32⟩
  | 29 => ⟨S64x128, .f32⟩
  | 30 => ⟨S8192x128, .f32⟩
  | 31 => ⟨S1x128, .f32⟩
  | 32 => ⟨S8192x128, .f32⟩
  | 33 => ⟨S8192x128, .f32⟩
  | 34 => ⟨S_, .f32⟩
  | 35 => ⟨S8192x128, .f32⟩
  | 36 => ⟨S8192x128, .i1⟩
  | 37 => ⟨S_, .f32⟩
  | 38 => ⟨S8192x128, .f32⟩
  | 39 => ⟨S8192x128, .f32⟩
  | 40 => ⟨S8192x128, .f32⟩
  | 41 => ⟨S128x4, .f32⟩
  | 42 => ⟨S8192x4, .f32⟩
  | 43 => ⟨S1x4, .f32⟩
  | 44 => ⟨S8192x4, .f32⟩
  | 45 => ⟨S8192x4, .f32⟩
  | 46 => ⟨S_, .f32⟩
  | 47 => ⟨S8192x4, .f32⟩
  | 48 => ⟨S8192x4, .i1⟩
  | 49 => ⟨S_, .f32⟩
  | 50 => ⟨S8192x4, .f32⟩
  | 51 => ⟨S8192x4, .f32⟩
  | 52 => ⟨S8192x4, .f32⟩
  | 53 => ⟨S4x1, .f32⟩
  | 54 => ⟨S8192x1, .f32⟩
  | 55 => ⟨S1x1, .f32⟩
  | 56 => ⟨S8192x1, .f32⟩
  | 57 => ⟨S8192x1, .f32⟩
  | 58 => ⟨S_, .f32⟩
  | 59 => ⟨S8192x1, .f32⟩
  | 60 => ⟨S8192x1, .i1⟩
  | 61 => ⟨S_, .f32⟩
  | 62 => ⟨S8192x1, .f32⟩
  | 63 => ⟨S8192x1, .f32⟩
  | 64 => ⟨S8192x1, .f32⟩
  | 65 => ⟨S4, .f32⟩
  | 66 => ⟨S_, .f32⟩
  | 67 => ⟨S1024x8192, .f32⟩
  | 68 => ⟨S_, .i32⟩
  | 69 => ⟨S4x1, .f32⟩
  | 70 => ⟨S4x1, .f32⟩
  | 71 => ⟨S4, .f32⟩
  | 72 => ⟨S_, .i32⟩
  | 73 => ⟨S8192x1, .f32⟩
  | 74 => ⟨S8192x1, .f32⟩
  | 75 => ⟨S8192x1, .f32⟩
  | 76 => ⟨S1024x8192, .f32⟩
  | 77 => ⟨S_, .i32⟩
  | 78 => ⟨S_, .i1⟩
  | 79 => ⟨S1x4, .f32⟩
  | 80 => ⟨S8192x4, .f32⟩
  | 81 => ⟨S1x4, .f32⟩
  | 82 => ⟨S8192x4, .f32⟩
  | 83 => ⟨S8192x4, .f32⟩
  | 84 => ⟨S1x4, .f32⟩
  | 85 => ⟨S8192x4, .f32⟩
  | 86 => ⟨S8192x4, .f32⟩
  | 87 => ⟨S8192x1, .f32⟩
  | 88 => ⟨S8192x1, .f32⟩
  | 89 => ⟨S8192x1, .f32⟩
  | 90 => ⟨S8192x1, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192x1, .f32⟩
  | 98 => ⟨S8192x1, .f32⟩
  | 99 => ⟨S8192x1, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192x1, .f32⟩
  | 107 => ⟨S8192x1, .f32⟩
  | 108 => ⟨S8192x1, .f32⟩
  | 109 => ⟨S8192x1, .f32⟩
  | 110 => ⟨S8192x1, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x1, .f32⟩
  | 120 => ⟨S8192x1, .f32⟩
  | 121 => ⟨S8192, .f32⟩
  | 122 => ⟨S1x8192, .f32⟩
  | 123 => ⟨S_, .i32⟩
  | 124 => ⟨S1024x8192, .f32⟩
  | 125 => ⟨S_, .i32⟩
  | 126 => ⟨S_, .i32⟩
  | 127 => ⟨S8192x1024, .f32⟩
  | _ => ⟨S8192x8, .f32⟩

abbrev hbmTy0_1 (i : Nat) : BufTy := match i % 128 with
  | 0 => ⟨S1024x1024, .f32⟩
  | 1 => ⟨S8192x1024, .f32⟩
  | 2 => ⟨S1x1024, .f32⟩
  | 3 => ⟨S8192x1024, .f32⟩
  | 4 => ⟨S8192x1024, .f32⟩
  | _ => ⟨S8192x8, .f32⟩

abbrev hbmTy (i : Nat) : BufTy := match i / 128 with
  | 0 => hbmTy0_0 i
  | 1 => hbmTy0_1 i
  | _ => ⟨S8192x8, .f32⟩

abbrev bufTy : (tb : Table) → Fin (tcTables nBuf tb) → BufTy
  | .hbm, ⟨i, _⟩ => hbmTy i
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_c : Ref sig .tc := ⟨.hbm, 68, rfl⟩
abbrev main_v42_0 : Ref sig .tc := ⟨.hbm, 69, rfl⟩
abbrev main_v42_1 : Ref sig .tc := ⟨.hbm, 70, rfl⟩
abbrev main_v42_2 : Ref sig .tc := ⟨.hbm, 71, rfl⟩
abbrev main_v42_3 : Ref sig .tc := ⟨.hbm, 72, rfl⟩
abbrev main_v42_4 : Ref sig .tc := ⟨.hbm, 73, rfl⟩
abbrev main_v42_5 : Ref sig .tc := ⟨.hbm, 74, rfl⟩
abbrev main_v42_6 : Ref sig .tc := ⟨.hbm, 75, rfl⟩
abbrev main_v42_7 : Ref sig .tc := ⟨.hbm, 76, rfl⟩
abbrev main_while0c_c_15 : Ref sig .tc := ⟨.hbm, 77, rfl⟩
abbrev main_while0c_v49 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_v54 : Ref sig .tc := ⟨.hbm, 84, rfl⟩
abbrev main_while0b_v55 : Ref sig .tc := ⟨.hbm, 85, rfl⟩
abbrev main_while0b_v56 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_cst_15 : Ref sig .tc := ⟨.hbm, 93, rfl⟩
abbrev main_while0b_v63 : Ref sig .tc := ⟨.hbm, 94, rfl⟩
abbrev main_while0b_v64 : Ref sig .tc := ⟨.hbm, 95, rfl⟩
abbrev main_while0b_cst_16 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_cst_17 : Ref sig .tc := ⟨.hbm, 102, rfl⟩
abbrev main_while0b_v70 : Ref sig .tc := ⟨.hbm, 103, rfl⟩
abbrev main_while0b_v71 : Ref sig .tc := ⟨.hbm, 104, rfl⟩
abbrev main_while0b_cst_18 : Ref sig .tc := ⟨.hbm, 105, rfl⟩
abbrev main_while0b_v72 : Ref sig .tc := ⟨.hbm, 106, rfl⟩
abbrev main_while0b_v73 : Ref sig .tc := ⟨.hbm, 107, rfl⟩
abbrev main_while0b_v74 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_cst_19 : Ref sig .tc := ⟨.hbm, 113, rfl⟩
abbrev main_while0b_v79 : Ref sig .tc := ⟨.hbm, 114, rfl⟩
abbrev main_while0b_v80 : Ref sig .tc := ⟨.hbm, 115, rfl⟩
abbrev main_while0b_cst_20 : Ref sig .tc := ⟨.hbm, 116, rfl⟩
abbrev main_while0b_v81 : Ref sig .tc := ⟨.hbm, 117, rfl⟩
abbrev main_while0b_v82 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_call4_v0 : Ref sig .tc := ⟨.hbm, 122, rfl⟩
abbrev main_while0b_call4_c : Ref sig .tc := ⟨.hbm, 123, rfl⟩
abbrev main_while0b_v86 : Ref sig .tc := ⟨.hbm, 124, rfl⟩
abbrev main_while0b_c_21 : Ref sig .tc := ⟨.hbm, 125, rfl⟩
abbrev main_while0b_v87 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩

abbrev nD : Nat := 1
abbrev τ : Topo := Topo.v7x

variable {F : FTy → Type} [FloatOps F]

abbrev main_while0_count : Scf.Loop 32 := ⟨0#32, 1024#32, 1#32⟩
-- ==== Proof.KernelIdeal.Mlp.lean ====
/- The first call, the MLP: what one grid point computes from its blocks, and the obligation of the pipeline's body
   at every point. Generic in the floats. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What the MLP computes on one block of 4096 rows, from the block of rows, the four weight matrices (transposed) and
    the four biases. -/
def mlpOut (x0 : Vec F S4096x8 .f32) (x1 : Vec F S8x64 .f32) (x2 : Vec F S1x64 .f32) (x3 : Vec F S64x128 .f32)
    (x4 : Vec F S1x128 .f32) (x5 : Vec F S128x4 .f32) (x6 : Vec F S1x4 .f32) (x7 : Vec F S4x1 .f32) (x8 : Vec F S1x1 .f32) :
    Vec F S4096x1 .f32 :=
  k0_pay1 (k0_pay2 x0 x1 x2 x3 x4 x5 x6) (k0_pay3 x0 x1 x2 x3 x4 x5 x6) (k0_pay4 x0 x1 x2 x3 x4 x5 x6) x7 x8

/-- Reading a whole buffer through the rectangle that is all of it. -/
abbrev rx0 : Rect S4096x8 := Rect.unit (s := S4096x8) ![0, 0] S4096x8.size inb_S4096x8_S4096x8_0_0
/-- The rectangle of the whole block of window 1. -/
abbrev rx1 : Rect S8x64 := Rect.unit (s := S8x64) ![0, 0] S8x64.size inb_S8x64_S8x64_0_0
/-- The rectangle of the whole block of window 2. -/
abbrev rx2 : Rect S1x64 := Rect.unit (s := S1x64) ![0, 0] S1x64.size inb_S1x64_S1x64_0_0
/-- The rectangle of the whole block of window 3. -/
abbrev rx3 : Rect S64x128 := Rect.unit (s := S64x128) ![0, 0] S64x128.size inb_S64x128_S64x128_0_0
/-- The rectangle of the whole block of window 4. -/
abbrev rx4 : Rect S1x128 := Rect.unit (s := S1x128) ![0, 0] S1x128.size inb_S1x128_S1x128_0_0
/-- The rectangle of the whole block of window 5. -/
abbrev rx5 : Rect S128x4 := Rect.unit (s := S128x4) ![0, 0] S128x4.size inb_S128x4_S128x4_0_0
/-- The rectangle of the whole block of window 6. -/
abbrev rx6 : Rect S1x4 := Rect.unit (s := S1x4) ![0, 0] S1x4.size inb_S1x4_S1x4_0_0
/-- The rectangle of the whole block of window 7. -/
abbrev rx7 : Rect S4x1 := Rect.unit (s := S4x1) ![0, 0] S4x1.size inb_S4x1_S4x1_0_0
/-- The rectangle of the whole block of window 8. -/
abbrev rx8 : Rect S1x1 := Rect.unit (s := S1x1) ![0, 0] S1x1.size inb_S1x1_S1x1_0_0
/-- The rectangle of the whole block of window 9. -/
abbrev rx9 : Rect S4096x1 := Rect.unit (s := S4096x1) ![0, 0] S4096x1.size inb_S4096x1_S4096x1_0_0

/-- The result's buffer after the body: the one store, through the rectangle that is all of the buffer. -/
def out0 (x0 : Vec F S4096x8 .f32) (x1 : Vec F S8x64 .f32) (x2 : Vec F S1x64 .f32) (x3 : Vec F S64x128 .f32)
    (x4 : Vec F S1x128 .f32) (x5 : Vec F S128x4 .f32) (x6 : Vec F S1x4 .f32) (x7 : Vec F S4x1 .f32) (x8 : Vec F S1x1 .f32) :
    Vec F S4096x1 .f32 :=
  View.canon [⟨rx9, mlpOut (View.ld x0 rx0) (View.ld x1 rx1) (View.ld x2 rx2) (View.ld x3 rx3) (View.ld x4 rx4) (View.ld x5 rx5)
    (View.ld x6 rx6) (View.ld x7 rx7) (View.ld x8 rx8)⟩]

/-- The one store covers the buffer. -/
theorem cover0 (p0 : Vec F S4096x1 .f32) (y : S4096x1.Idx) :
    ∃ pc ∈ ([⟨rx9, p0⟩] : List (View.Piece (Elt F) S4096x1 .f32)), y ∈ pc.1.set :=
  View.cover_of_tiled [⟨rx9, p0⟩] S4096x1.size (by rfl) y

set_option maxHeartbeats 1000000 in
/-- The MLP's body on whole buffers: the nine operands are left as they were, the result's buffer holds `out0`. -/
theorem mlp_triple (c : Dev nD) (E : Set ℕ) (i : grid0.Coords) (a1 : Memref sig .tc .vmem S4096x8 .f32) (h1 : a1.IsWhole)
    (a2 : Memref sig .tc .vmem S8x64 .f32) (h2 : a2.IsWhole) (a3 : Memref sig .tc .vmem S1x64 .f32) (h3 : a3.IsWhole)
    (a4 : Memref sig .tc .vmem S64x128 .f32) (h4 : a4.IsWhole) (a5 : Memref sig .tc .vmem S1x128 .f32) (h5 : a5.IsWhole)
    (a6 : Memref sig .tc .vmem S128x4 .f32) (h6 : a6.IsWhole) (a7 : Memref sig .tc .vmem S1x4 .f32) (h7 : a7.IsWhole)
    (a8 : Memref sig .tc .vmem S4x1 .f32) (h8 : a8.IsWhole) (a9 : Memref sig .tc .vmem S1x1 .f32) (h9 : a9.IsWhole)
    (a10 : Memref sig .tc .vmem S4096x1 .f32) (h10 : a10.IsWhole)
    (x0 : Vec F S4096x8 .f32) (x1 : Vec F S8x64 .f32) (x2 : Vec F S1x64 .f32) (x3 : Vec F S64x128 .f32)
    (x4 : Vec F S1x128 .f32) (x5 : Vec F S128x4 .f32) (x6 : Vec F S1x4 .f32) (x7 : Vec F S4x1 .f32) (x8 : Vec F S1x1 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ (∃ d, owns (c : Thread nD τ) a10 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare (out0 x0 x1 x2 x3 x4 x5 x6 x7 x8)) -∗ K ⟨⟩))
      ⊢ wp frame (wpE (defs₀ (F := F)) Variants.none c none) E
          (cc0__mlp_kernel i a1 h1 a2 h2 a3 h3 a4 h4 a5 h5 a6 h6 a7 h7 a8 h8 a9 h9 a10 h10) K := by
  simp only [cc0__mlp_kernel_eq_skeleton]; unfold cc0__mlp_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%d9, %f9, -, H9⟩, Hk⟩
  subst e0 e1 e2 e3 e4 e5 e6 e7 e8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  exact View.read_writes_eq_canon _ _ _ (cover0 _)

/-! ## The pipeline's proof data and obligation, at the contents `V` the call is entered with -/

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the result's buffer holds after the body at point `t`. -/
def res0 (c : Dev nD) (t : Fin cfg0.N) : Vec F S4096x1 .f32 :=
  out0 (blk0 V c 0 t) (blk0 V c 1 t) (blk0 V c 2 t) (blk0 V c 3 t) (blk0 V c 4 t) (blk0 V c 5 t) (blk0 V c 6 t) (blk0 V c 7 t) (blk0 V c 8 t)

/-- The proof data: the operands' buffers hold their blocks, the result's what the body computes; the invariant is the
    class's; nothing is owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => res0 V c t
  Φ _ := Pipeline.ΦA spec0 c
  q _ := fullShare
  owed _ := 0

/-- The array behind a window of the first call is found as the launch left it. -/
theorem A_eq0 (c : Dev nD) (w : Fin cfg0.W) : (dat0 V c).A w = V c (Pipeline.arrRef spec0 w) := by
  dsimp only [dat0]

/-! At every point an input window keeps its block, and the last window gets the point's result. -/

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = blk0 V c 8 t := by dsimp only [dat0]
theorem after0_9 (c : Dev nD) (t : Fin cfg0.N) : (dat0 V c).after 9 t = res0 V c t := by dsimp only [dat0]

/-- An operand whose buffer the body leaves at the operand's block holds that block before the body at every point,
    fetched there or not. -/
theorem before0 (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dat0 V c).after w t) = blk0 V c w t)
    (t : Fin cfg0.N) (d : (cfg0.win w).block.Idx → Elt F (cfg0.win w).elt) :
    (dat0 V c).before w t d = (cfg0.win w).fill (cfg0.grid.coords t) d (blk0 V c w t) :=
  ((dat0 V c).before_in_eq_fetched w hw hlive hclip
    (fun t => by rw [hkeep]; unfold Dat.blockOf blk0; rw [A_eq0]) t d).trans
    (by unfold Dat.fetched Dat.blockOf blk0; rw [A_eq0])

/-! So each input window is found holding its block. -/

theorem before0_0 (c : Dev nD) (t : Fin cfg0.N) (d) : (dat0 V c).before 0 t d = blk0 V c 0 t :=
  before0 V c 0 rfl (fun _ => rfl) (fun _ _ _ => rfl) (fun t => by dsimp only [dat0]) t d
theorem before0_1 (c : Dev nD) (t : Fin cfg0.N) (d) : (dat0 V c).before 1 t d = blk0 V c 1 t :=
  before0 V c 1 rfl (fun _ => rfl) (fun _ _ _ => rfl) (fun t => by dsimp only [dat0]) t d
theorem before0_2 (c : Dev nD) (t : Fin cfg0.N) (d) : (dat0 V c).before 2 t d = blk0 V c 2 t :=
  before0 V c 2 rfl (fun _ => rfl) (fun _ _ _ => rfl) (fun t => by dsimp only [dat0]) t d
theorem before0_3 (c : Dev nD) (t : Fin cfg0.N) (d) : (dat0 V c).before 3 t d = blk0 V c 3 t :=
  before0 V c 3 rfl (fun _ => rfl) (fun _ _ _ => rfl) (fun t => by dsimp only [dat0]) t d
theorem before0_4 (c : Dev nD) (t : Fin cfg0.N) (d) : (dat0 V c).before 4 t d = blk0 V c 4 t :=
  before0 V c 4 rfl (fun _ => rfl) (fun _ _ _ => rfl) (fun t => by dsimp only [dat0]) t d
theorem before0_5 (c : Dev nD) (t : Fin cfg0.N) (d) : (dat0 V c).before 5 t d = blk0 V c 5 t :=
  before0 V c 5 rfl (fun _ => rfl) (fun _ _ _ => rfl) (fun t => by dsimp only [dat0]) t d
theorem before0_6 (c : Dev nD) (t : Fin cfg0.N) (d) : (dat0 V c).before 6 t d = blk0 V c 6 t :=
  before0 V c 6 rfl (fun _ => rfl) (fun _ _ _ => rfl) (fun t => by dsimp only [dat0]) t d
theorem before0_7 (c : Dev nD) (t : Fin cfg0.N) (d) : (dat0 V c).before 7 t d = blk0 V c 7 t :=
  before0 V c 7 rfl (fun _ => rfl) (fun _ _ _ => rfl) (fun t => by dsimp only [dat0]) t d
theorem before0_8 (c : Dev nD) (t : Fin cfg0.N) (d) : (dat0 V c).before 8 t d = blk0 V c 8 t :=
  before0 V c 8 rfl (fun _ => rfl) (fun _ _ _ => rfl) (fun t => by dsimp only [dat0]) t d

/-! ## The body at a generic point -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the operands' buffers hold their blocks, so `mlp_triple` applies. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold res0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (mlp_triple c Set.univ (grid0.coords t) _ _ _ _ _ _ _ _ _ _ _ _ _ _ _ _ _ _ _ _
    (blk0 V c 0 t) (blk0 V c 1 t) (blk0 V c 2 t) (blk0 V c 3 t) (blk0 V c 4 t) (blk0 V c 5 t) (blk0 V c 6 t) (blk0 V c 7 t) (blk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body there. -/
theorem row0 (t : Fin cfg0.N) :
    defs₀ (F := F) .tc cfg0.body (cfg0.bodyArgs t (cfg0.slots t)) = bodyAt0 t := by
  unfold defs₀; rw [Defs.onTc_tc]

/-- The pipeline's obligation of the MLP's body, at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.KernelIdeal.Hand

end
-- ==== Proof.KernelIdeal.Body.lean ====
/- The second call's copies: the copies and the waits as one list over their numbers, and the printed body as that list. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Programs of the second call's body. -/
abbrev PG (F : FTy → Type) [FloatOps F] [Named F] (α : Type) : Type 1 := Prog (TpuEff nD τ sig (Elt F) Λ₀ .tc) α

/-- `f lo`, `f (lo + 1)`, … : `n` of them, one after the other. -/
def seqN (f : ℕ → PG F PUnit) : ℕ → ℕ → PG F PUnit
  | _, 0 => Prog.ret PUnit.unit
  | lo, n + 1 => Prog.bind (f lo) fun _ => seqN f (lo + 1) n

/-- The same in consecutive lots of the given sizes, then `K`. -/
def seqL {α : Type} (f : ℕ → PG F PUnit) (K : PG F α) : ℕ → List ℕ → PG F α
  | _, [] => K
  | lo, n :: ns => Prog.bind (seqN f lo n) fun _ => seqL f K (lo + n) ns

/-- Two runs of numbered programs, one after the other, are one run. -/
theorem seqN_append {α : Type} (f : ℕ → PG F PUnit) (K : PG F α) (n m lo : ℕ) :
    Prog.bind (seqN f lo n) (fun _ => Prog.bind (seqN f (lo + n) m) fun _ => K) = Prog.bind (seqN f lo (n + m)) fun _ => K := by
  induction n generalizing lo with
  | zero => rw [Nat.zero_add]; rfl
  | succ n ih =>
    rw [show n + 1 + m = (n + m) + 1 by omega]
    show Prog.bind (Prog.bind (f lo) fun _ => seqN f (lo + 1) n) _ = Prog.bind (Prog.bind (f lo) fun _ => seqN f (lo + 1) (n + m)) _
    rw [show ∀ (x : PG F PUnit) (g : PUnit → PG F PUnit) (k : PUnit → PG F α), Prog.bind (Prog.bind x g) k = Prog.bind x fun y => Prog.bind (g y) k from
      fun x g k => Prog.bind_assoc x g k]
    rw [show ∀ (x : PG F PUnit) (g : PUnit → PG F PUnit) (k : PUnit → PG F α), Prog.bind (Prog.bind x g) k = Prog.bind x fun y => Prog.bind (g y) k from
      fun x g k => Prog.bind_assoc x g k]
    refine congrArg _ (funext fun _ => ?_)
    rw [← ih (lo + 1), show lo + 1 + n = lo + (n + 1) by omega]

/-- The lots make one run. -/
theorem seqL_eq {α : Type} (f : ℕ → PG F PUnit) (K : PG F α) (ns : List ℕ) (lo : ℕ) :
    seqL f K lo ns = Prog.bind (seqN f lo ns.sum) fun _ => K := by
  induction ns generalizing lo with
  | nil => rfl
  | cons n ns ih => rw [List.sum_cons, ← seqN_append, ← ih]; rfl

/-- Where copy `n` of the 128 puts its 256 rows: sublane `n mod 32` of the transposed scratch, rows from `256 (n / 32)`. -/
abbrev offD (n : ℕ) : Fin S32x1024x128.rank → ℕ := ![n % 32, 256 * (n / 32 % 4), 0]
/-- Where copy `n` takes them from: rows from `256 (n / 32)`, sublane `n mod 32` of the scratch. -/
abbrev offS (n : ℕ) : Fin S1024x32x128.rank → ℕ := ![256 * (n / 32 % 4), n % 32, 0]

/-- The piece that copy `n` fills lies inside the transposed buffer. -/
theorem inbD (n : ℕ) : ∀ a, offD n a + S1x256x128.size a ≤ S32x1024x128.size a := by
  intro a
  have h1 := Nat.mod_lt n (show 0 < 32 by decide)
  have h2 := Nat.mod_lt (n / 32) (show 0 < 4 by decide)
  match a with
  | ⟨0, _⟩ => show n % 32 + 1 ≤ 32; omega
  | ⟨1, _⟩ => show 256 * (n / 32 % 4) + 256 ≤ 1024; omega
  | ⟨2, _⟩ => show 0 + 128 ≤ 128; omega

/-- The piece that copy `n` takes lies inside the buffer of hidden rows. -/
theorem inbS (n : ℕ) : ∀ a, offS n a + S256x1x128.size a ≤ S1024x32x128.size a := by
  intro a
  have h1 := Nat.mod_lt n (show 0 < 32 by decide)
  have h2 := Nat.mod_lt (n / 32) (show 0 < 4 by decide)
  match a with
  | ⟨0, _⟩ => show 256 * (n / 32 % 4) + 256 ≤ 1024; omega
  | ⟨1, _⟩ => show n % 32 + 1 ≤ 32; omega
  | ⟨2, _⟩ => show 0 + 128 ≤ 128; omega

/-- The target of copy `n`. -/
abbrev dstV (a10 : Memref sig .tc .vmem S32x1024x128 .f32) (n : ℕ) : Memref sig .tc .vmem S256x128 .f32 :=
  (a10.slice (Rect.unit (s := S32x1024x128) (offD n) S1x256x128.size (inbD n)) (fun _ => rfl)).squeeze S256x128 squeezes_S1x256x128_S256x128
/-- The source of copy `n`. -/
abbrev srcV (a9 : Memref sig .tc .vmem S1024x32x128 .f32) (n : ℕ) : Memref sig .tc .vmem S256x128 .f32 :=
  (a9.slice (Rect.unit (s := S1024x32x128) (offS n) S256x1x128.size (inbS n)) (fun _ => rfl)).squeeze S256x128 squeezes_S256x1x128_S256x128

/-- Copy `n` is started. -/
def issue (a9 : Memref sig .tc .vmem S1024x32x128 .f32) (a10 : Memref sig .tc .vmem S32x1024x128 .f32) (a11 : DmaSems sig S_) (n : ℕ) : PG F PUnit :=
  Prog.lift (.enqueueDma (srcV a9 n) (.here (dstV a10 n)) (.dma a11.sem) ((View.wordExact_bits rfl).reshape _ _) ((View.wordExact_bits rfl).reshape _ _) ⟨Or.inl rfl, trivial⟩)
/-- Copy `n` is waited for. -/
def await (a9 : Memref sig .tc .vmem S1024x32x128 .f32) (a10 : Memref sig .tc .vmem S32x1024x128 .f32) (a11 : DmaSems sig S_) (n : ℕ) : PG F PUnit :=
  Prog.lift (.waitDma2 a11.sem (srcV a9 n) (dstV a10 n) ((View.wordExact_bits rfl).reshape _ _) ((View.wordExact_bits rfl).reshape _ _))

/-- The state of the recurrence: the hidden row and the cell row of one batch half. -/
abbrev HC (F : FTy → Type) [FloatOps F] [Named F] : Type := FVec F S32x128 .f32 × FVec F S32x128 .f32

/-- The twelve scalars of the recurrence. -/
structure Par (F : FTy → Type) [FloatOps F] [Named F] where
  (wi0 wi1 wi2 wi3 wh0 wh1 wh2 wh3 b0 b1 b2 b3 : Elt F .f32)

/-- The cell after a later step. -/
def cellC (p : Par F) (hc : HC F) : FVec F S32x128 .f32 :=
  k1_pay2 p.b0 p.b1 p.b2 (k1_pay23 p.wi0 p.wh0) (k1_pay24 p.wi1 p.wh1) (k1_pay25 p.wi2 p.wh2) hc.1 hc.2
/-- The hidden row after a later step. -/
def cellH (p : Par F) (hc : HC F) : FVec F S32x128 .f32 :=
  k1_pay27 (cellC p hc) (k1_pay3 p.b3 (k1_pay26 p.wi3 p.wh3) hc.1) (k1_pay4 (F := F))
/-- … as the row stored. -/
def cellRow (p : Par F) (hc : HC F) : FVec F S1x32x128 .f32 :=
  k1_pay28 (cellC p hc) (k1_pay3 p.b3 (k1_pay26 p.wi3 p.wh3) hc.1) (k1_pay4 (F := F))

/-- The state after the first step, from the hidden row `h0`, the cell row `c0` and the input row `z`. -/
def firstC (p : Par F) (h0 c0 z : FVec F S32x128 .f32) : FVec F S32x128 .f32 :=
  k1_pay19 p.wi2 p.wh2 p.b1 p.b2 (k1_pay14 h0) (k1_pay15 c0) (k1_pay16 z) (k1_pay17 p.wi0 p.wh0 p.b0 h0 z) (k1_pay18 p.wi1 p.wh1 h0 z)
/-- The output gate of the first step, before its sigmoid. -/
def firstO (p : Par F) (h0 z : FVec F S32x128 .f32) : FVec F S32x128 .f32 :=
  k1_pay20 p.wi3 p.wh3 p.b3 (k1_pay14 h0) (k1_pay16 z)
/-- The hidden row after the first step, -/
def firstH (p : Par F) (h0 c0 z : FVec F S32x128 .f32) : FVec F S32x128 .f32 := k1_pay21 (firstC p h0 c0 z) (firstO p h0 z)
/-- and the same row in the shape in which it is stored. -/
def firstRow (p : Par F) (h0 c0 z : FVec F S32x128 .f32) : FVec F S1x32x128 .f32 := k1_pay22 (firstC p h0 c0 z) (firstO p h0 z)

/-- A row is stored at `off`: the buffer's row is read, then written. -/
def putRow (a9 : Memref sig .tc .vmem S1024x32x128 .f32) (off : Fin 3 → ℕ) (h : ∀ a, off a + S1x32x128.size a ≤ S1024x32x128.size a)
    (v : FVec F S1x32x128 .f32) : PG F PUnit :=
  Prog.bind (Prog.lift (.load a9 (Rect.unit (s := S1024x32x128) off S1x32x128.size h).toLoadRect (View.loadsAt_vmem h_S1x32x128))) fun _ =>
    Prog.lift (.store a9 (Rect.unit (s := S1024x32x128) off S1x32x128.size h) v Finset.univ (View.stores_vmem_bits_univ h_S1x32x128 rfl) (.inl rfl))

/-- One later step: the new hidden row is stored and carried on with the new cell row. -/
def trip (a9 : Memref sig .tc .vmem S1024x32x128 .f32) (p : Par F) {n : ℕ} (off : Fin n → Fin 3 → ℕ)
    (h : ∀ k a, off k a + S1x32x128.size a ≤ S1024x32x128.size a) (k : Fin n) (hc : HC F) : PG F (HC F) :=
  Prog.bind (putRow a9 (off k) (h k) (cellRow p hc)) fun _ => Prog.ret (cellH p hc, cellC p hc)

section Body
variable (i : grid1.Coords) (arg2 : Memref sig .tc .smem S3x4 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S1024x256 .f32) (harg6 : arg6.IsWhole) (arg7 : Memref sig .tc .vmem S1x256 .f32) (harg7 : arg7.IsWhole) (arg8 : Memref sig .tc .vmem S4096x256 .f32) (harg8 : arg8.IsWhole) (arg9 : Memref sig .tc .vmem S1024x32x128 .f32) (harg9 : arg9.IsWhole) (arg10 : Memref sig .tc .vmem S32x1024x128 .f32) (harg10 : arg10.IsWhole) (arg11 : DmaSems sig S_)

/-- The recurrence's part of the body, from the cell row `c` and the output gate `o` of the first step, the copies and
    their waits in lots of the given sizes. -/
def recLots (k1_h1 : k1_cond1 i = 1#1) (l1 l2 l3 l4 l5 : List ℕ) (p : Par F) (c o : FVec F S32x128 .f32) : PG F PUnit :=
  Prog.bind (putRow arg9 ![0, 0, 0] inb_S1024x32x128_S1x32x128_0_0_0 (k1_pay22 c o)) fun _ =>
  Prog.bind (Scf.Loop.for k1_t1_loop (k1_t1_ok i k1_h1) (k1_pay21 c o, c) (trip arg9 p k1_off1 fun k => k1_off1_inb i k k1_h1)) fun r1 =>
  seqL (issue arg9 arg10 arg11) (
  Prog.bind (Scf.Loop.for k1_t2_loop (k1_t2_ok i k1_h1) (r1.1, r1.2) (trip arg9 p k1_off2 fun k => k1_off2_inb i k k1_h1)) fun r2 =>
  seqL (issue arg9 arg10 arg11) (
  Prog.bind (Scf.Loop.for k1_t3_loop (k1_t3_ok i k1_h1) (r2.1, r2.2) (trip arg9 p k1_off3 fun k => k1_off3_inb i k k1_h1)) fun r3 =>
  seqL (issue arg9 arg10 arg11) (
  Prog.bind (Scf.Loop.for k1_t4_loop (k1_t4_ok i k1_h1) (r3.1, r3.2) (trip arg9 p k1_off4 fun k => k1_off4_inb i k k1_h1)) fun r4 =>
  seqL (issue arg9 arg10 arg11) (
  seqL (await arg9 arg10 arg11) (Prog.ret PUnit.unit) 0 l5) 96 l4) 64 l3) 32 l2) 0 l1

/-- The recurrence's part of the body. -/
def recProg (k1_h1 : k1_cond1 i = 1#1) (p : Par F) (c o : FVec F S32x128 .f32) : PG F PUnit :=
  recLots i arg9 arg10 arg11 k1_h1 [32] [32] [32] [32] [128] p c o

/-- The recurrence with its copies and waits cut into lots is the recurrence, however the lots are cut. -/
theorem recLots_eq (k1_h1 : k1_cond1 i = 1#1) {l1 l2 l3 l4 l5 : List ℕ} (e1 : l1.sum = 32) (e2 : l2.sum = 32) (e3 : l3.sum = 32)
    (e4 : l4.sum = 32) (e5 : l5.sum = 128) (p : Par F) (c o : FVec F S32x128 .f32) :
    recLots i arg9 arg10 arg11 k1_h1 l1 l2 l3 l4 l5 p c o = recProg i arg9 arg10 arg11 k1_h1 p c o := by
  unfold recProg recLots
  simp only [seqL_eq, e1, e2, e3, e4, e5, List.sum_cons, List.sum_nil, Nat.add_zero]

/-- The twelve scalars are read from the table. -/
def table : PG F (Par F) := do
  let wi0 : Elt F .f32 ← smemLoad arg2 (Rect.unit (s := S3x4) ![0, 0] S1x1.size inb_S3x4_S1x1_0_0) numel1_S1x1 rfl
  let wi1 : Elt F .f32 ← smemLoad arg2 (Rect.unit (s := S3x4) ![0, 1] S1x1.size inb_S3x4_S1x1_0_1) numel1_S1x1 rfl
  let wi2 : Elt F .f32 ← smemLoad arg2 (Rect.unit (s := S3x4) ![0, 2] S1x1.size inb_S3x4_S1x1_0_2) numel1_S1x1 rfl
  let wi3 : Elt F .f32 ← smemLoad arg2 (Rect.unit (s := S3x4) ![0, 3] S1x1.size inb_S3x4_S1x1_0_3) numel1_S1x1 rfl
  let wh0 : Elt F .f32 ← smemLoad arg2 (Rect.unit (s := S3x4) ![1, 0] S1x1.size inb_S3x4_S1x1_1_0) numel1_S1x1 rfl
  let wh1 : Elt F .f32 ← smemLoad arg2 (Rect.unit (s := S3x4) ![1, 1] S1x1.size inb_S3x4_S1x1_1_1) numel1_S1x1 rfl
  let wh2 : Elt F .f32 ← smemLoad arg2 (Rect.unit (s := S3x4) ![1, 2] S1x1.size inb_S3x4_S1x1_1_2) numel1_S1x1 rfl
  let wh3 : Elt F .f32 ← smemLoad arg2 (Rect.unit (s := S3x4) ![1, 3] S1x1.size inb_S3x4_S1x1_1_3) numel1_S1x1 rfl
  let b0 : Elt F .f32 ← smemLoad arg2 (Rect.unit (s := S3x4) ![2, 0] S1x1.size inb_S3x4_S1x1_2_0) numel1_S1x1 rfl
  let b1 : Elt F .f32 ← smemLoad arg2 (Rect.unit (s := S3x4) ![2, 1] S1x1.size inb_S3x4_S1x1_2_1) numel1_S1x1 rfl
  let b2 : Elt F .f32 ← smemLoad arg2 (Rect.unit (s := S3x4) ![2, 2] S1x1.size inb_S3x4_S1x1_2_2) numel1_S1x1 rfl
  let b3 : Elt F .f32 ← smemLoad arg2 (Rect.unit (s := S3x4) ![2, 3] S1x1.size inb_S3x4_S1x1_2_3) numel1_S1x1 rfl
  Prog.ret ⟨wi0, wi1, wi2, wi3, wh0, wh1, wh2, wh3, b0, b1, b2, b3⟩

/-- A whole row block is read. -/
abbrev getRow (a : Memref sig .tc .vmem S32x128 .f32) : PG F (Vec F S32x128 .f32) :=
  Prog.lift (.load a (Rect.unit (s := S32x128) ![0, 0] S32x128.size inb_S32x128_S32x128_0_0).toLoadRect (View.loadsAt_vmem h_S32x128))

/-- The first tile's share of the body: the scalars and the three rows are read, and the recurrence is run. -/
def startProg (k1_h1 : k1_cond1 i = 1#1) : PG F PUnit :=
  Prog.bind (table arg2) fun p => Prog.bind (getRow arg4) fun h0 => Prog.bind (getRow arg5) fun c0 => Prog.bind (getRow arg3) fun z =>
  recProg i arg9 arg10 arg11 k1_h1 p (firstC p h0 c0 z) (firstO p h0 z)

/-- Sequencing is associative. -/
theorem bindA {α β γ : Type} (x : PG F α) (f : α → PG F β) (g : β → PG F γ) :
    Prog.bind (Prog.bind x f) g = Prog.bind x fun y => Prog.bind (f y) g := Prog.bind_assoc x f g
/-- A program that only returns passes its value on. -/
theorem retA {α β : Type} (a : α) (f : α → PG F β) : Prog.bind (Prog.ret a : PG F α) f = f a := rfl
/-- What follows a list of lots may be moved inside it. -/
theorem seqL_bind {α β : Type} (f : ℕ → PG F PUnit) (K : PG F α) (g : α → PG F β) (ns : List ℕ) (lo : ℕ) :
    Prog.bind (seqL f K lo ns) g = seqL f (Prog.bind K g) lo ns := by
  induction ns generalizing lo with
  | nil => rfl
  | cons n ns ih =>
    show Prog.bind (Prog.bind (seqN f lo n) fun _ => seqL f K (lo + n) ns) g = _
    rw [bindA]; simp only [ih]; rfl

set_option maxRecDepth 65536 in
/-- The stretch around loop 1. -/
theorem part7_eq (k1_h1 : k1_cond1 i = 1#1) (p : Par F) (c o : FVec F S32x128 .f32) :
    k1_part7 (F := F) i arg2 harg2 arg3 harg3 arg4 harg4 arg5 harg5 arg6 harg6 arg7 harg7 arg8 harg8 arg9 harg9 arg10 harg10 arg11 k1_h1 p.wi0 p.wi1 p.wi2 p.wi3 p.wh0 p.wh1 p.wh2 p.wh3 p.b0 p.b1 p.b2 p.b3 c o
    = Prog.bind (putRow arg9 ![0, 0, 0] inb_S1024x32x128_S1x32x128_0_0_0 (k1_pay22 c o)) fun _ =>
      Prog.bind (Scf.Loop.for k1_t1_loop (k1_t1_ok i k1_h1) (k1_pay21 c o, c) (trip arg9 p k1_off1 fun k => k1_off1_inb i k k1_h1)) fun r1 =>
      Prog.bind (seqN (issue arg9 arg10 arg11) 0 2) fun _ =>
      Prog.ret ⟨k1_pay23 p.wi0 p.wh0, k1_pay24 p.wi1 p.wh1, k1_pay25 p.wi2 p.wh2, k1_pay26 p.wi3 p.wh3, r1.1, r1.2⟩ := rfl
set_option maxRecDepth 65536 in
/-- The stretch of the body around loop 2: two copies are started, the loop runs, the next copies are started. -/
theorem part13_eq (k1_h1 : k1_cond1 i = 1#1) (p : Par F) (hc : HC F) :
    k1_part13 (F := F) i arg2 harg2 arg3 harg3 arg4 harg4 arg5 harg5 arg6 harg6 arg7 harg7 arg8 harg8 arg9 harg9 arg10 harg10 arg11 k1_h1 p.b0 p.b1 p.b2 p.b3 (k1_pay23 p.wi0 p.wh0) (k1_pay24 p.wi1 p.wh1) (k1_pay25 p.wi2 p.wh2) (k1_pay26 p.wi3 p.wh3) hc.1 hc.2
    = Prog.bind (seqN (issue arg9 arg10 arg11) 30 2) fun _ =>
      Prog.bind (Scf.Loop.for k1_t2_loop (k1_t2_ok i k1_h1) (hc.1, hc.2) (trip arg9 p k1_off2 fun k => k1_off2_inb i k k1_h1)) fun r =>
      Prog.bind (seqN (issue arg9 arg10 arg11) 32 2) fun _ => Prog.ret ⟨r.1, r.2⟩ := rfl
set_option maxRecDepth 65536 in
/-- The stretch of the body around loop 3: two copies are started, the loop runs, the next copies are started. -/
theorem part19_eq (k1_h1 : k1_cond1 i = 1#1) (p : Par F) (hc : HC F) :
    k1_part19 (F := F) i arg2 harg2 arg3 harg3 arg4 harg4 arg5 harg5 arg6 harg6 arg7 harg7 arg8 harg8 arg9 harg9 arg10 harg10 arg11 k1_h1 p.b0 p.b1 p.b2 p.b3 (k1_pay23 p.wi0 p.wh0) (k1_pay24 p.wi1 p.wh1) (k1_pay25 p.wi2 p.wh2) (k1_pay26 p.wi3 p.wh3) hc.1 hc.2
    = Prog.bind (seqN (issue arg9 arg10 arg11) 62 2) fun _ =>
      Prog.bind (Scf.Loop.for k1_t3_loop (k1_t3_ok i k1_h1) (hc.1, hc.2) (trip arg9 p k1_off3 fun k => k1_off3_inb i k k1_h1)) fun r =>
      Prog.bind (seqN (issue arg9 arg10 arg11) 64 3) fun _ => Prog.ret ⟨r.1, r.2⟩ := rfl
set_option maxRecDepth 65536 in
/-- The stretch of the body around loop 4: two copies are started, the loop runs, the next copies are started. -/
theorem part25_eq (k1_h1 : k1_cond1 i = 1#1) (p : Par F) (hc : HC F) :
    k1_part25 (F := F) i arg2 harg2 arg3 harg3 arg4 harg4 arg5 harg5 arg6 harg6 arg7 harg7 arg8 harg8 arg9 harg9 arg10 harg10 arg11 k1_h1 p.b0 p.b1 p.b2 p.b3 (k1_pay23 p.wi0 p.wh0) (k1_pay24 p.wi1 p.wh1) (k1_pay25 p.wi2 p.wh2) (k1_pay26 p.wi3 p.wh3) hc.1 hc.2
    = Prog.bind (seqN (issue arg9 arg10 arg11) 94 2) fun _ =>
      Prog.bind (Scf.Loop.for k1_t4_loop (k1_t4_ok i k1_h1) (hc.1, hc.2) (trip arg9 p k1_off4 fun k => k1_off4_inb i k k1_h1)) fun r =>
      Prog.bind (seqN (issue arg9 arg10 arg11) 96 3) fun _ => Prog.ret PUnit.unit := rfl

/-- The recurrence's part of the body with the stretches around the loops named. -/
def midProg (k1_h1 : k1_cond1 i = 1#1) (p : Par F) (c o : FVec F S32x128 .f32) : PG F PUnit :=
  Prog.bind (k1_part7 (F := F) i arg2 harg2 arg3 harg3 arg4 harg4 arg5 harg5 arg6 harg6 arg7 harg7 arg8 harg8 arg9 harg9 arg10 harg10 arg11 k1_h1 p.wi0 p.wi1 p.wi2 p.wi3 p.wh0 p.wh1 p.wh2 p.wh3 p.b0 p.b1 p.b2 p.b3 c o) fun r7 =>
  seqL (issue arg9 arg10 arg11) (
  Prog.bind (k1_part13 (F := F) i arg2 harg2 arg3 harg3 arg4 harg4 arg5 harg5 arg6 harg6 arg7 harg7 arg8 harg8 arg9 harg9 arg10 harg10 arg11 k1_h1 p.b0 p.b1 p.b2 p.b3 r7.1 r7.2.1 r7.2.2.1 r7.2.2.2.1 r7.2.2.2.2.1 r7.2.2.2.2.2) fun r13 =>
  seqL (issue arg9 arg10 arg11) (
  Prog.bind (k1_part19 (F := F) i arg2 harg2 arg3 harg3 arg4 harg4 arg5 harg5 arg6 harg6 arg7 harg7 arg8 harg8 arg9 harg9 arg10 harg10 arg11 k1_h1 p.b0 p.b1 p.b2 p.b3 r7.1 r7.2.1 r7.2.2.1 r7.2.2.2.1 r13.1 r13.2) fun r19 =>
  seqL (issue arg9 arg10 arg11) (
  Prog.bind (k1_part25 (F := F) i arg2 harg2 arg3 harg3 arg4 harg4 arg5 harg5 arg6 harg6 arg7 harg7 arg8 harg8 arg9 harg9 arg10 harg10 arg11 k1_h1 p.b0 p.b1 p.b2 p.b3 r7.1 r7.2.1 r7.2.2.1 r7.2.2.2.1 r19.1 r19.2) fun _ =>
  seqL (issue arg9 arg10 arg11) (
  seqL (await arg9 arg10 arg11) (Prog.ret PUnit.unit) 0 [4, 5, 5, 6, 5, 6, 5, 6, 5, 6, 5, 6, 5, 5, 6, 5, 6, 5, 6, 5, 6, 5, 6, 1]) 99 [5, 6, 5, 6, 5, 2]) 67 [5, 6, 5, 5, 6]) 34 [6, 5, 6, 5, 6]) 2 [6, 5, 6, 5, 6]

set_option maxHeartbeats 400000 in
/-- The printed middle of the body, with the last three waits, is the recurrence from the second step on. -/
theorem midProg_eq (k1_h1 : k1_cond1 i = 1#1) (p : Par F) (c o : FVec F S32x128 .f32) :
    Prog.bind (midProg i arg2 harg2 arg3 harg3 arg4 harg4 arg5 harg5 arg6 harg6 arg7 harg7 arg8 harg8 arg9 harg9 arg10 harg10 arg11 k1_h1 p c o) (fun _ => seqL (await arg9 arg10 arg11) (Prog.ret PUnit.unit) 125 [3]) = recProg i arg9 arg10 arg11 k1_h1 p c o := by
  rw [← recLots_eq (F := F) i arg9 arg10 arg11 k1_h1 (l1 := [2, 6, 5, 6, 5, 6, 2]) (l2 := [2, 6, 5, 6, 5, 6, 2]) (l3 := [3, 5, 6, 5, 5, 6, 2]) (l4 := [3, 5, 6, 5, 6, 5, 2])
    (l5 := [4, 5, 5, 6, 5, 6, 5, 6, 5, 6, 5, 6, 5, 5, 6, 5, 6, 5, 6, 5, 6, 5, 6, 1, 3]) rfl rfl rfl rfl rfl]
  unfold midProg
  simp only [part7_eq, bindA, retA, seqL_bind]
  simp only [part13_eq, part19_eq, part25_eq, bindA, retA, seqL_bind]
  rfl

set_option maxRecDepth 65536 in
set_option maxHeartbeats 400000 in
/-- The printed part that runs the recurrence: its first step, then its middle. -/
theorem part54_eq (k1_h1 : k1_cond1 i = 1#1) :
    k1_part54 (F := F) i arg2 harg2 arg3 harg3 arg4 harg4 arg5 harg5 arg6 harg6 arg7 harg7 arg8 harg8 arg9 harg9 arg10 harg10 arg11 k1_h1
  = Prog.bind (k1_part5 (F := F) i arg2 harg2 arg3 harg3 arg4 harg4 arg5 harg5 arg6 harg6 arg7 harg7 arg8 harg8 arg9 harg9 arg10 harg10 arg11) fun x => match x with
     | ⟨v199, v200, v201, v202, v203, v204, v205, v206, v207, v208, v209, v210, v212, v214, v216, v223, v228⟩ =>
      Prog.bind (k1_part6 i arg2 harg2 arg3 harg3 arg4 harg4 arg5 harg5 arg6 harg6 arg7 harg7 arg8 harg8 arg9 harg9 arg10 harg10 arg11 v201 v202 v205 v206 v208 v209 v210 v212 v214 v216 v223 v228) fun y => match y with
      | ⟨v269, v276⟩ => midProg i arg2 harg2 arg3 harg3 arg4 harg4 arg5 harg5 arg6 harg6 arg7 harg7 arg8 harg8 arg9 harg9 arg10 harg10 arg11 k1_h1 ⟨v199, v200, v201, v202, v203, v204, v205, v206, v207, v208, v209, v210⟩ v269 v276 := rfl
/-- The monadic form of sequencing is the plain one, -/
theorem bindE {α β : Type} (x : PG F α) (f : α → PG F β) : (x >>= f) = Prog.bind x f := rfl
/-- and so is that of returning. -/
theorem pureE {α : Type} (a : α) : (pure a : PG F α) = Prog.ret a := rfl

set_option maxRecDepth 65536 in
/-- The printed first step reads the table and the three rows, and hands on the state after one step. -/
theorem part5_start (M : Par F → FVec F S32x128 .f32 → FVec F S32x128 .f32 → PG F PUnit) :
    Prog.bind (k1_part5 (F := F) i arg2 harg2 arg3 harg3 arg4 harg4 arg5 harg5 arg6 harg6 arg7 harg7 arg8 harg8 arg9 harg9 arg10 harg10 arg11) (fun x => match x with
     | ⟨v199, v200, v201, v202, v203, v204, v205, v206, v207, v208, v209, v210, v212, v214, v216, v223, v228⟩ =>
      Prog.bind (k1_part6 i arg2 harg2 arg3 harg3 arg4 harg4 arg5 harg5 arg6 harg6 arg7 harg7 arg8 harg8 arg9 harg9 arg10 harg10 arg11 v201 v202 v205 v206 v208 v209 v210 v212 v214 v216 v223 v228) fun y => match y with
      | ⟨v269, v276⟩ => M ⟨v199, v200, v201, v202, v203, v204, v205, v206, v207, v208, v209, v210⟩ v269 v276)
   = Prog.bind (table arg2) fun p => Prog.bind (getRow arg4) fun h0 => Prog.bind (getRow arg5) fun c0 => Prog.bind (getRow arg3) fun z =>
     M p (firstC p h0 c0 z) (firstO p h0 z) := by
  rw [k1_part5_eq_skeleton, k1_part6_eq_skeleton]; unfold k1_part5_skel k1_part6_skel table
  simp only [bindE, pureE, bindA, retA]
  rfl

/-- The first tile's share with its last waits. -/
theorem part54_start (k1_h1 : k1_cond1 i = 1#1) :
    Prog.bind (k1_part54 (F := F) i arg2 harg2 arg3 harg3 arg4 harg4 arg5 harg5 arg6 harg6 arg7 harg7 arg8 harg8 arg9 harg9 arg10 harg10 arg11 k1_h1) (fun _ => seqL (await arg9 arg10 arg11) (Prog.ret PUnit.unit) 125 [3])
      = startProg i arg2 arg3 arg4 arg5 arg9 arg10 arg11 k1_h1 := by
  rw [part54_eq, part5_start]
  unfold startProg
  simp only [bindA, midProg_eq]

/-- The rows of the block that product `n` stores lie inside it. -/
theorem inbO (n : ℕ) : ∀ a, (![128 * (n % 32), 0] : Fin 2 → ℕ) a + S128x256.size a ≤ S4096x256.size a := by
  intro a
  have h1 := Nat.mod_lt n (show 0 < 32 by decide)
  match a with
  | ⟨0, _⟩ => show 128 * (n % 32) + 128 ≤ 4096; omega
  | ⟨1, _⟩ => show 0 + 256 ≤ 256; omega
/-- The layer of the transposed buffer that product `n` reads lies inside it. -/
theorem inbA (n : ℕ) : ∀ a, (![n % 32, 0, 0] : Fin 3 → ℕ) a + S1x1024x128.size a ≤ S32x1024x128.size a := by
  intro a
  have h1 := Nat.mod_lt n (show 0 < 32 by decide)
  match a with
  | ⟨0, _⟩ => show n % 32 + 1 ≤ 32; omega
  | ⟨1, _⟩ => show 0 + 1024 ≤ 1024; omega
  | ⟨2, _⟩ => show 0 + 128 ≤ 128; omega

/-- Product `n` of the 32: sublane `n` of the transposed scratch times the block of weights, plus the bias, into the rows
    from `128 n` of the result's block. -/
def prod (w : Vec F S1024x256 .f32) (b : Vec F S1x256 .f32) (n : ℕ) : PG F PUnit := do
  let v : Vec F S1x1024x128 .f32 ← Prog.lift (.load arg10 (Rect.unit (s := S32x1024x128) ![n % 32, 0, 0] S1x1024x128.size (inbA n)).toLoadRect (View.loadsAt_vmem h_S1x1024x128))
  let _ : Vec F S128x256 .f32 ← Prog.lift (.load arg8 (Rect.unit (s := S4096x256) ![128 * (n % 32), 0] S128x256.size (inbO n)).toLoadRect (View.loadsAt_vmem h_S128x256))
  Prog.lift (.store arg8 (Rect.unit (s := S4096x256) ![128 * (n % 32), 0] S128x256.size (inbO n)) (k1_pay37 w b v) Finset.univ (View.stores_vmem_bits_univ h_S128x256 rfl) (.inl rfl))

/-- The block of weights and the bias are read and the 32 products are made. -/
def prodProg : PG F PUnit :=
  Prog.bind (Prog.lift (.load arg6 (Rect.unit (s := S1024x256) ![0, 0] S1024x256.size inb_S1024x256_S1024x256_0_0).toLoadRect (View.loadsAt_vmem h_S1024x256))) fun w =>
  Prog.bind (Prog.lift (.load arg7 (Rect.unit (s := S1x256) ![0, 0] S1x256.size inb_S1x256_S1x256_0_0).toLoadRect (View.loadsAt_vmem h_S1x256))) fun b =>
  seqN (prod arg8 arg10 w b) 0 32

set_option maxRecDepth 65536 in
/-- Away from the first tile the body is the products. -/
theorem body_else (h : ¬ k1_cond1 i = 1#1) : cc1__lstm_kernel (F := F) i arg2 harg2 arg3 harg3 arg4 harg4 arg5 harg5 arg6 harg6 arg7 harg7 arg8 harg8 arg9 harg9 arg10 harg10 arg11 = prodProg arg6 arg7 arg8 arg10 := by
  rw [cc1__lstm_kernel_eq_skeleton]; unfold cc1__lstm_kernel_skel
  rw [k1_part55_eq_skeleton]; unfold k1_part55_skel
  rw [dif_neg h]
  rfl

set_option maxRecDepth 65536 in
/-- At the first tile it is the recurrence, then the products. -/
theorem body_then (h : k1_cond1 i = 1#1) : cc1__lstm_kernel (F := F) i arg2 harg2 arg3 harg3 arg4 harg4 arg5 harg5 arg6 harg6 arg7 harg7 arg8 harg8 arg9 harg9 arg10 harg10 arg11
    = Prog.bind (startProg i arg2 arg3 arg4 arg5 arg9 arg10 arg11 h) fun _ => prodProg arg6 arg7 arg8 arg10 := by
  rw [← part54_start (F := F) i arg2 harg2 arg3 harg3 arg4 harg4 arg5 harg5 arg6 harg6 arg7 harg7 arg8 harg8 arg9 harg9 arg10 harg10 arg11 h, bindA, cc1__lstm_kernel_eq_skeleton]; unfold cc1__lstm_kernel_skel
  rw [k1_part55_eq_skeleton]; unfold k1_part55_skel
  rw [dif_pos h]
  simp only [seqL, seqN, bindE, pureE, bindA, retA]
  refine congrArg (Prog.bind (k1_part54 (F := F) i arg2 harg2 arg3 harg3 arg4 harg4 arg5 harg5 arg6 harg6 arg7 harg7 arg8 harg8 arg9 harg9 arg10 harg10 arg11 h)) (funext fun _ => ?_)
  refine congrArg (Prog.bind (await (F := F) arg9 arg10 arg11 125)) (funext fun _ => ?_)
  refine congrArg (Prog.bind (await (F := F) arg9 arg10 arg11 126)) (funext fun _ => ?_)
  refine congrArg (Prog.bind (await (F := F) arg9 arg10 arg11 127)) (funext fun _ => ?_)
  rfl
end Body

end Cert.KernelIdeal.Hand

end
-- ==== Proof.KernelIdeal.Copies.lean ====
/- The copies of the second call: which elements each copy takes and fills, what has landed once all have, and the
   runs of starts and of waits on the one semaphore. -/
module

public import proofs.«01_k».proof.Proof.KernelIdeal.Body
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The buffer of the hidden rows, one row per step, -/
abbrev A9 : Memref sig .tc .vmem S1024x32x128 .f32 := Memref.whole cc1_scratch0
/-- and the transposed one. -/
abbrev A10 : Memref sig .tc .vmem S32x1024x128 .f32 := Memref.whole cc1_scratch1

/-- The number of the copy that takes an element of the rows' buffer, -/
def pnoS (x : S1024x32x128.Idx) : ℕ := 32 * ((x 0).val / 256) + (x 1).val
/-- and of the copy that fills an element of the transposed buffer. -/
def pnoD (y : S32x1024x128.Idx) : ℕ := 32 * ((y 1).val / 256) + (y 0).val

/-- There are 128 copies: every element taken is of one of them, -/
theorem pnoS_lt (x : S1024x32x128.Idx) : pnoS x < 128 := by
  have h0 : (x 0).val < 1024 := (x 0).isLt
  have h1 : (x 1).val < 32 := (x 1).isLt
  unfold pnoS; omega
/-- and so is every element filled. -/
theorem pnoD_lt (y : S32x1024x128.Idx) : pnoD y < 128 := by
  have h0 : (y 0).val < 32 := (y 0).isLt
  have h1 : (y 1).val < 1024 := (y 1).isLt
  unfold pnoD; omega

/-- The elements copy `n` takes, -/
def pieceS (n : ℕ) : Finset S1024x32x128.Idx := Finset.univ.filter fun x => pnoS x = n
/-- the elements it fills, -/
def pieceD (n : ℕ) : Finset S32x1024x128.Idx := Finset.univ.filter fun y => pnoD y = n
/-- and those of copy `n` and the later ones. -/
def restS (n : ℕ) : Finset S1024x32x128.Idx := Finset.univ.filter fun x => n ≤ pnoS x
/-- The same of the elements filled. -/
def restD (n : ℕ) : Finset S32x1024x128.Idx := Finset.univ.filter fun y => n ≤ pnoD y

/-- Before the first copy every element is still to be taken, -/
theorem restS_zero : restS 0 = Finset.univ := by ext x; simp [restS]
/-- and every element still to be filled. -/
theorem restD_zero : restD 0 = Finset.univ := by ext x; simp [restD]
/-- The elements copy `n` takes are among those still to be taken, -/
theorem pieceS_sub (n : ℕ) : pieceS n ⊆ restS n := by
  intro x; simp only [pieceS, restS, Finset.mem_filter, Finset.mem_univ, true_and]; omega
/-- and those it fills among those still to be filled. -/
theorem pieceD_sub (n : ℕ) : pieceD n ⊆ restD n := by
  intro x; simp only [pieceD, restD, Finset.mem_filter, Finset.mem_univ, true_and]; omega
/-- After copy `n` those of the later copies are still to be taken, -/
theorem restS_diff (n : ℕ) : restS n \ pieceS n = restS (n + 1) := by
  ext x; simp only [pieceS, restS, Finset.mem_filter, Finset.mem_univ, true_and, Finset.mem_sdiff]; omega
/-- and those of the later copies still to be filled. -/
theorem restD_diff (n : ℕ) : restD n \ pieceD n = restD (n + 1) := by
  ext x; simp only [pieceD, restD, Finset.mem_filter, Finset.mem_univ, true_and, Finset.mem_sdiff]; omega
/-- Together the copies take every element, -/
theorem cover_pieceS : (Finset.univ : Finset (Fin 128)).biUnion (fun n => pieceS n.val) = Finset.univ := by
  ext x
  simp only [Finset.mem_biUnion, Finset.mem_univ, true_and, iff_true, pieceS, Finset.mem_filter]
  exact ⟨⟨pnoS x, pnoS_lt x⟩, rfl⟩
/-- and together they fill every element. -/
theorem cover_pieceD : (Finset.univ : Finset (Fin 128)).biUnion (fun n => pieceD n.val) = Finset.univ := by
  ext x
  simp only [Finset.mem_biUnion, Finset.mem_univ, true_and, iff_true, pieceD, Finset.mem_filter]
  exact ⟨⟨pnoD x, pnoD_lt x⟩, rfl⟩

/-- The view of copy `n`'s source is the piece. -/
theorem set_src {n : ℕ} (hn : n < 128) : (srcV A9 n).view.set = pieceS n := by
  rw [show (srcV A9 n).view.set = (Rect.unit (s := S1024x32x128) (offS n) S256x1x128.size (inbS n)).set from
    (View.set_reshape _ _).trans (View.set_slice_whole _ _)]
  ext x
  rw [LoadRect.mem_set]
  have h0 : (x 0).val < 1024 := (x 0).isLt
  have h1 : (x 1).val < 32 := (x 1).isLt
  have h2 : (x 2).val < 128 := (x 2).isLt
  have hm : n / 32 % 4 = n / 32 := Nat.mod_eq_of_lt (by omega)
  simp only [pieceS, Finset.mem_filter, Finset.mem_univ, true_and]
  constructor
  · intro h
    show 32 * ((x 0).val / 256) + (x 1).val = n
    obtain ⟨j0, l0, e0⟩ := h 0
    obtain ⟨j1, l1, e1⟩ := h 1
    have l0' : j0 < 256 := l0
    have l1' : j1 < 1 := l1
    have e0' : (x 0).val = 256 * (n / 32 % 4) + 1 * j0 := e0
    have e1' : (x 1).val = n % 32 + 1 * j1 := e1
    omega
  · intro h a
    have h' : 32 * ((x 0).val / 256) + (x 1).val = n := h
    match a with
    | ⟨0, _⟩ => exact ⟨(x 0).val - 256 * (n / 32 % 4), (by show _ < 256; omega), (by show (x 0).val = 256 * (n / 32 % 4) + 1 * _; omega)⟩
    | ⟨1, _⟩ => exact ⟨0, (by show 0 < 1; omega), (by show (x 1).val = n % 32 + 1 * _; omega)⟩
    | ⟨2, _⟩ => exact ⟨(x 2).val, (by show _ < 128; omega), (by show (x 2).val = 0 + 1 * _; omega)⟩

/-- The view of copy `n`'s target is the piece. -/
theorem set_dst {n : ℕ} (hn : n < 128) : (dstV A10 n).view.set = pieceD n := by
  rw [show (dstV A10 n).view.set = (Rect.unit (s := S32x1024x128) (offD n) S1x256x128.size (inbD n)).set from
    (View.set_reshape _ _).trans (View.set_slice_whole _ _)]
  ext x
  rw [LoadRect.mem_set]
  have h0 : (x 0).val < 32 := (x 0).isLt
  have h1 : (x 1).val < 1024 := (x 1).isLt
  have h2 : (x 2).val < 128 := (x 2).isLt
  have hm : n / 32 % 4 = n / 32 := Nat.mod_eq_of_lt (by omega)
  simp only [pieceD, Finset.mem_filter, Finset.mem_univ, true_and]
  constructor
  · intro h
    show 32 * ((x 1).val / 256) + (x 0).val = n
    obtain ⟨j0, l0, e0⟩ := h 0
    obtain ⟨j1, l1, e1⟩ := h 1
    have l0' : j0 < 1 := l0
    have l1' : j1 < 256 := l1
    have e0' : (x 0).val = n % 32 + 1 * j0 := e0
    have e1' : (x 1).val = 256 * (n / 32 % 4) + 1 * j1 := e1
    omega
  · intro h a
    have h' : 32 * ((x 1).val / 256) + (x 0).val = n := h
    match a with
    | ⟨0, _⟩ => exact ⟨0, (by show 0 < 1; omega), (by show (x 0).val = n % 32 + 1 * _; omega)⟩
    | ⟨1, _⟩ => exact ⟨(x 1).val - 256 * (n / 32 % 4), (by show _ < 256; omega), (by show (x 1).val = 256 * (n / 32 % 4) + 1 * _; omega)⟩
    | ⟨2, _⟩ => exact ⟨(x 2).val, (by show _ < 128; omega), (by show (x 2).val = 0 + 1 * _; omega)⟩

/-- A matrix index matched with shape `[256, 1, 128]` has the unit coordinate put in the middle. -/
theorem reshape_mid (h : S256x128.numel = S256x1x128.numel) (a : Fin 256) (b : Fin 128) :
    Shape.reshapeEquiv h (ix2 a b : S256x128.Idx) = (ix3 a (0 : Fin 1) b : S256x1x128.Idx) :=
  Shape.reshapeEquiv_eq_of_rowMajor h (by
    rw [Shape.rowMajor_val_three, Shape.rowMajor_val_two]
    show ((a.val * 1 + 0) * 128 + b.val) = a.val * 128 + b.val
    omega)

/-- An element of copy `n`'s target in the transposed buffer, -/
theorem emb_dst (n : ℕ) (a : Fin 256) (b : Fin 128) (d : Fin 3) :
    ((dstV A10 n).view.emb (ix2 a b : S256x128.Idx) d).val = ![n % 32, 256 * (n / 32 % 4) + a.val, b.val] d := by
  show ((Rect.unit (s := S32x1024x128) (offD n) S1x256x128.size (inbD n)).emb (Shape.reshapeEquiv _ (ix2 a b : S256x128.Idx)) d).val = _
  rw [reshapeEquiv_ix2_1ab]
  match d with
  | ⟨0, _⟩ => show n % 32 + 1 * 0 = n % 32; omega
  | ⟨1, _⟩ => show 256 * (n / 32 % 4) + 1 * a.val = 256 * (n / 32 % 4) + a.val; omega
  | ⟨2, _⟩ => show 0 + 1 * b.val = b.val; omega
/-- and the one of its source that it comes from. -/
theorem emb_src (n : ℕ) (a : Fin 256) (b : Fin 128) (d : Fin 3) :
    ((srcV A9 n).view.emb (ix2 a b : S256x128.Idx) d).val = ![256 * (n / 32 % 4) + a.val, n % 32, b.val] d := by
  show ((Rect.unit (s := S1024x32x128) (offS n) S256x1x128.size (inbS n)).emb (Shape.reshapeEquiv _ (ix2 a b : S256x128.Idx)) d).val = _
  rw [reshape_mid]
  match d with
  | ⟨0, _⟩ => show 256 * (n / 32 % 4) + 1 * a.val = 256 * (n / 32 % 4) + a.val; omega
  | ⟨1, _⟩ => show n % 32 + 1 * 0 = n % 32; omega
  | ⟨2, _⟩ => show 0 + 1 * b.val = b.val; omega

/-- The rows' buffer with its first two axes exchanged. -/
def tr (hs : FVec F S1024x32x128 .f32) : FVec F S32x1024x128 .f32 :=
  fun y => hs (ix3 (⟨(y 1).val, (y 1).isLt⟩ : Fin 1024) (⟨(y 0).val, (y 0).isLt⟩ : Fin 32) (⟨(y 2).val, (y 2).isLt⟩ : Fin 128))

/-- What copy `n` leaves on its piece is the exchange of what it took. -/
theorem landed {n : ℕ} (hn : n < 128) (hs : FVec F S1024x32x128 .f32) (g : FVec F S32x1024x128 .f32) :
    ∀ y ∈ pieceD n, (dstV A10 n).view.write (Elt F) g (ReadAs.same.apply ((srcV A9 n).view.read (Elt F) hs)) Finset.univ y = tr hs y := by
  intro y hy
  rw [← set_dst hn] at hy
  obtain ⟨z, -, rfl⟩ := Finset.mem_map.1 hy
  rw [View.write_emb_of_mem _ _ (Finset.mem_univ z)]
  show hs ((srcV A9 n).view.emb z) = tr hs ((dstV A10 n).view.emb z)
  unfold tr
  refine congrArg hs (funext fun d => Fin.ext ?_)
  obtain ⟨a, b, rfl⟩ : ∃ (a : Fin 256) (b : Fin 128), z = (ix2 a b : S256x128.Idx) := ⟨_, _, eq_ix2 z⟩
  rw [emb_src]
  match d with
  | ⟨0, _⟩ => exact (emb_dst n a b 1).symm
  | ⟨1, _⟩ => exact (emb_dst n a b 0).symm
  | ⟨2, _⟩ => exact (emb_dst n a b 2).symm

/-! ## The batch of the 128 copies -/

/-- The rows' buffer held on `S` at `f`, -/
abbrev own9 (c : Dev nD) (S : Finset S1024x32x128.Idx) (f : FVec F S1024x32x128 .f32) : sProp 𝕄 :=
  A9.view.loc (c : Thread nD τ) ↦[S]{fullShare} f
/-- and the transposed one. -/
abbrev own10 (c : Dev nD) (S : Finset S32x1024x128.Idx) (g : FVec F S32x1024x128 .f32) : sProp 𝕄 :=
  A10.view.loc (c : Thread nD τ) ↦[S]{fullShare} g

/-- What copy `n` gives back: its target filled, its source as it was. -/
def deliver (c : Dev nD) (hs : FVec F S1024x32x128 .f32) (n : Fin 128) : sProp 𝕄 :=
  iprop(own10 c (pieceD n.val) (tr hs) ∗ own9 c (pieceS n.val) hs)

/-- What a copy delivers can be kept at the semaphore until it is waited for. -/
instance deliver_storable (c : Dev nD) (hs : FVec F S1024x32x128 .f32) (n : Fin 128) :
    Storable (upEmb : UEmb _ 𝕄) (deliver c hs n) := by unfold deliver; infer_instance

/-- One copy's credit. -/
def credit : ℕ := sig.dmaCredit .tc (Kind.tc.table Space.vmem) cc1_scratch1.idx S256x128 .f32

/-- The batch with `j` copies started and `u` units waited for. -/
abbrev batch (c : Dev nD) (hs : FVec F S1024x32x128 .f32) (j u : ℕ) : sProp 𝕄 :=
  Transfers.Batch (countersEmb (U := Pipeline.UD sig nD τ)) (c : Thread nD τ) (.dma cc1_scratch2.sem) () credit (deliver (F := F) c hs) j u

/-- Copy `n` is started: its piece of the rows' buffer, which holds the rows `hs` there, and its target go to it. -/
theorem issue_wp (c : Dev nD) (hs f : FVec F S1024x32x128 .f32) (g : FVec F S32x1024x128 .f32) {n : ℕ} (hn : n < 128)
    (hf : ∀ x ∈ pieceS n, f x = hs x) (Q : PUnit → sProp 𝕄) :
    iprop(own9 c (restS n) f ∗ own10 c (restD n) g ∗ batch c hs n 0
        ∗ (iprop(own9 c (restS (n + 1)) f ∗ own10 c (restD (n + 1)) g ∗ batch c hs (n + 1) 0) -∗ Q ⟨⟩))
      ⊢ wp frame (wpE (defs₀ (F := F)) Variants.none (c : Thread nD τ) none) Set.univ (issue A9 A10 cc1_scratch2 n) Q := by
  rw [show own9 c (restS n) f = iprop(own9 c (pieceS n) f ∗ own9 (F := F) c (restS n \ pieceS n) f) from
        Entails.antisymm (pointsTo_split_subset (pieceS_sub n)).1 (pointsTo_split_subset (pieceS_sub n)).2,
    show own10 c (restD n) g = iprop(own10 c (pieceD n) g ∗ own10 (F := F) c (restD n \ pieceD n) g) from
        Entails.antisymm (pointsTo_split_subset (pieceD_sub n)).1 (pointsTo_split_subset (pieceD_sub n)).2,
    restS_diff, restD_diff, show own9 (F := F) c (pieceS n) f = own9 c (pieceS n) hs from pointsTo_congr hf]
  iintro ⟨⟨Hs, Hsr⟩, ⟨Hd, Hdr⟩, HB, Hk⟩
  unfold issue
  iapply (Transfers.wp_dmaBatch (countersEmb (U := Pipeline.UD sig nD τ)) Variants.none (c : Thread nD τ) none
    (src := srcV A9 n) (dst := dstV A10 n) (q := fullShare) (fs := hs) (fd := g) (Sd := pieceD n) () credit rfl (set_dst hn).subset
    (D := deliver (F := F) c hs) (j := n) (u := 0) hn (Nat.zero_le _)
    (by unfold deliver
        rw [set_src hn]
        exact sep_mono_left (Entails.of_eq (pointsTo_congr (landed hn hs g))))) $$ [Hs Hd HB]
  · rw [set_src hn]
    isplitl [Hs]; · iexact Hs
    isplitl [Hd]; · iexact Hd
    iexact HB
  iintro HB
  sl_step
  iapply Hk
  isplitl [Hsr]; · iexact Hsr
  isplitl [Hdr]; · iexact Hdr
  iexact HB

theorem credit_pos : 0 < credit := by unfold credit; decide

/-- A run of `n + 1` numbered programs is the first of them, then a run of `n`. -/
theorem wp_seqN_succ (c : Dev nD) (f : ℕ → PG F PUnit) (lo n : ℕ) (Q : PUnit → sProp 𝕄) :
    wp frame (wpE (defs₀ (F := F)) Variants.none (c : Thread nD τ) none) Set.univ (seqN f lo (n + 1)) Q
      = wp frame (wpE (defs₀ (F := F)) Variants.none (c : Thread nD τ) none) Set.univ (f lo)
          (fun _ => wp frame (wpE (defs₀ (F := F)) Variants.none (c : Thread nD τ) none) Set.univ (seqN f (lo + 1) n) Q) :=
  wp_bind frame _ _ (f lo) (fun _ => seqN f (lo + 1) n) Q

/-- A run of copies is started. -/
theorem issues_wp (c : Dev nD) (hs f : FVec F S1024x32x128 .f32) (g : FVec F S32x1024x128 .f32) (n lo : ℕ) (hn : lo + n ≤ 128)
    (hf : ∀ x, lo ≤ pnoS x → pnoS x < lo + n → f x = hs x) (Q : PUnit → sProp 𝕄) :
    iprop(own9 c (restS lo) f ∗ own10 c (restD lo) g ∗ batch c hs lo 0
        ∗ (iprop(own9 c (restS (lo + n)) f ∗ own10 c (restD (lo + n)) g ∗ batch c hs (lo + n) 0) -∗ Q ⟨⟩))
      ⊢ wp frame (wpE (defs₀ (F := F)) Variants.none (c : Thread nD τ) none) Set.univ (seqN (issue A9 A10 cc1_scratch2) lo n) Q := by
  induction n generalizing lo with
  | zero =>
    iintro ⟨Hs, Hd, HB, Hk⟩
    unfold seqN
    sl_step
    iapply Hk
    isplitl [Hs]; · iexact Hs
    isplitl [Hd]; · iexact Hd
    iexact HB
  | succ n ih =>
    rw [wp_seqN_succ]
    refine BIBase.Entails.trans ?_ (issue_wp c hs f g (n := lo) (by omega) (fun x hx => by
      have e : pnoS x = lo := (Finset.mem_filter.1 hx).2
      exact hf x (by omega) (by omega)) _)
    iintro ⟨Hs, Hd, HB, Hk⟩
    isplitl [Hs]; · iexact Hs
    isplitl [Hd]; · iexact Hd
    isplitl [HB]; · iexact HB
    iintro ⟨Hs, Hd, HB⟩
    iapply (ih (lo + 1) (by omega) fun x h1 h2 => hf x (by omega) (by omega))
    rw [show lo + 1 + n = lo + (n + 1) by omega]
    isplitl [Hs]; · iexact Hs
    isplitl [Hd]; · iexact Hd
    isplitl [HB]; · iexact HB
    iexact Hk

/-- The remaining waits: the last of them gives every delivery back, and the counter at zero. -/
theorem awaits_wp (c : Dev nD) (hs : FVec F S1024x32x128 .f32) (n lo : ℕ) (hn : lo + (n + 1) = 128) (Q : PUnit → sProp 𝕄) :
    iprop(batch c hs 128 (lo * credit) ∗ (∃ W, owes (c : Thread nD τ) 0 W)
        ∗ (iprop(bigSep Finset.univ (deliver c hs) ∗ semVal ((c : Thread nD τ), SemLoc.dma cc1_scratch2.sem) 0
            ∗ (∃ W, owes (c : Thread nD τ) 0 W)) -∗ Q ⟨⟩))
      ⊢ wp frame (wpE (defs₀ (F := F)) Variants.none (c : Thread nD τ) none) Set.univ (seqN (await A9 A10 cc1_scratch2) lo (n + 1)) Q := by
  induction n generalizing lo with
  | zero =>
    rw [wp_seqN_succ]
    iintro ⟨HB, ⟨%W, Ho⟩, Hk⟩
    unfold await
    iapply (Transfers.wp_waitBatchLast (countersEmb (U := Pipeline.UD sig nD τ)) Variants.none (c : Thread nD τ) none () (N := credit) rfl credit_pos
      (D := deliver (F := F) c hs) (u := lo * credit) (by rw [← Nat.succ_mul, Nat.mul_comm, show lo.succ = 128 by omega])) $$ [HB Ho]
    · isplitl [HB]; · iexact HB
      iexact Ho
    iintro ⟨HD, Hv, Ho⟩
    unfold seqN
    sl_step
    sl_step
    iapply Hk
    isplitl [HD]; · iexact HD
    isplitl [Hv]; · iexact Hv
    iexists _; iexact Ho
  | succ n ih =>
    rw [wp_seqN_succ]
    iintro ⟨HB, ⟨%W, Ho⟩, Hk⟩
    unfold await
    iapply (Transfers.wp_waitBatch (countersEmb (U := Pipeline.UD sig nD τ)) Variants.none (c : Thread nD τ) none () (N := credit) rfl
      (D := deliver (F := F) c hs) (u := lo * credit)
      (by rw [← Nat.succ_mul, Nat.mul_comm credit]; exact Nat.mul_lt_mul_of_pos_right (by omega) credit_pos)) $$ [HB Ho]
    · isplitl [HB]; · iexact HB
      iexact Ho
    iintro ⟨HB, Ho⟩
    rw [← Nat.succ_mul]
    sl_step
    iapply (ih (lo + 1) (by omega))
    isplitl [HB]; · iexact HB
    isplitl [Ho]; · iexists _; iexact Ho
    iexact Hk

/-- All the deliveries together: the rows' buffer as it was, the transposed buffer filled. -/
theorem delivered (c : Dev nD) (hs : FVec F S1024x32x128 .f32) :
    bigSep Finset.univ (deliver c hs) ⊢ iprop(own9 c Finset.univ hs ∗ own10 (F := F) c Finset.univ (tr hs)) := by
  have h9 : own9 (F := F) c Finset.univ hs = bigSep Finset.univ fun n : Fin 128 => own9 c (pieceS n.val) hs := by
    rw [← cover_pieceS]
    exact pointsTo_biUnion _ _ fun i _ j _ hij => Finset.disjoint_left.2 fun x hx hy =>
      hij (Fin.ext ((Finset.mem_filter.1 hx).2.symm.trans (Finset.mem_filter.1 hy).2))
  have h10 : own10 (F := F) c Finset.univ (tr hs) = bigSep Finset.univ fun n : Fin 128 => own10 c (pieceD n.val) (tr hs) := by
    rw [← cover_pieceD]
    exact pointsTo_biUnion _ _ fun i _ j _ hij => Finset.disjoint_left.2 fun x hx hy =>
      hij (Fin.ext ((Finset.mem_filter.1 hx).2.symm.trans (Finset.mem_filter.1 hy).2))
  rw [h9, h10, show deliver (F := F) c hs = fun n : Fin 128 => iprop(own10 c (pieceD n.val) (tr hs) ∗ own9 c (pieceS n.val) hs) from
    funext fun n => by unfold deliver; rfl]
  refine (show _ ⊢ iprop(bigSep Finset.univ (fun n : Fin 128 => own10 (F := F) c (pieceD n.val) (tr hs))
      ∗ bigSep Finset.univ (fun n : Fin 128 => own9 c (pieceS n.val) hs)) from
    Entails.of_eq (BI.bigSep_sep Finset.univ (fun n : Fin 128 => own10 c (pieceD n.val) (tr hs))
      (fun n : Fin 128 => own9 c (pieceS n.val) hs))).trans ?_
  iintro ⟨H1, H2⟩
  isplitl [H2]; · iexact H2
  iexact H1

end Cert.KernelIdeal.Hand

end
-- ==== Proof.KernelIdeal.Rec.lean ====
/- The recurrence of the second call: the counted loops store one hidden row per step, and the copies between them
   carry the finished rows to the transposed buffer. -/
module

public import proofs.«01_k».proof.Proof.KernelIdeal.Copies

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The rows -/

/-- The state after step `t`: the hidden row and the cell row. -/
def stt (p : Par F) (h0 c0 z : FVec F S32x128 .f32) : ℕ → HC F
  | 0 => (firstH p h0 c0 z, firstC p h0 c0 z)
  | t + 1 => (cellH p (stt p h0 c0 z t), cellC p (stt p h0 c0 z t))

/-- The hidden rows of all 1024 steps. -/
def rows (p : Par F) (h0 c0 z : FVec F S32x128 .f32) : FVec F S1024x32x128 .f32 :=
  fun x => (stt p h0 c0 z (x 0).val).1 (ix2 (⟨(x 1).val, (x 1).isLt⟩ : Fin 32) (⟨(x 2).val, (x 2).isLt⟩ : Fin 128))

/-- A row block cast to one row is the block. -/
theorem cast_row (v : FVec F S32x128 .f32) (a : Fin 32) (b : Fin 128) :
    shapeCast S1x32x128 (shapeCast S1x32x128 v shapeCasts_S32x128_S1x32x128) shapeCasts_S1x32x128_S1x32x128
      (ix3 (0 : Fin 1) a b : S1x32x128.Idx) = v (ix2 a b) := by
  rw [shapeCast_apply _ _ (ix3 (0 : Fin 1) a b : S1x32x128.Idx) (ix3 (0 : Fin 1) a b : S1x32x128.Idx) rfl]
  exact shapeCast_apply _ _ _ _ (by
    rw [Shape.rowMajor_val_three, Shape.rowMajor_val_two]
    show a.val * 128 + b.val = (0 * 32 + a.val) * 128 + b.val
    omega)

/-- The first row as stored has the hidden row's elements, -/
theorem firstRow_apply (p : Par F) (h0 c0 z : FVec F S32x128 .f32) (a : Fin 32) (b : Fin 128) :
    firstRow p h0 c0 z (ix3 (0 : Fin 1) a b : S1x32x128.Idx) = firstH p h0 c0 z (ix2 a b) := cast_row (firstH p h0 c0 z) a b
/-- and so has a later row. -/
theorem cellRow_apply (p : Par F) (hc : HC F) (a : Fin 32) (b : Fin 128) :
    cellRow p hc (ix3 (0 : Fin 1) a b : S1x32x128.Idx) = cellH p hc (ix2 a b) := cast_row (cellH p hc) a b

/-! ## Storing a row -/

/-- The view that row `r` is stored through. -/
abbrev rowR (off : Fin 3 → ℕ) (h : ∀ a, off a + S1x32x128.size a ≤ S1024x32x128.size a) : Rect S1024x32x128 :=
  Rect.unit (s := S1024x32x128) off S1x32x128.size h

/-- The view of row `r` covers the elements whose first index is `r`. -/
theorem mem_row {r : ℕ} {off : Fin 3 → ℕ} (e : off = ![r, 0, 0]) (h : ∀ a, off a + S1x32x128.size a ≤ S1024x32x128.size a)
    (x : S1024x32x128.Idx) : x ∈ (rowR off h).set ↔ (x 0).val = r := by
  subst e
  rw [LoadRect.mem_set]
  have h1 : (x 1).val < 32 := (x 1).isLt
  have h2 : (x 2).val < 128 := (x 2).isLt
  constructor
  · intro h
    obtain ⟨j0, l0, e0⟩ := h 0
    have l0' : j0 < 1 := l0
    have e0' : (x 0).val = r + 1 * j0 := e0
    omega
  · intro h a
    match a with
    | ⟨0, _⟩ => exact ⟨0, (by show 0 < 1; omega), (by show (x 0).val = r + 1 * _; omega)⟩
    | ⟨1, _⟩ => exact ⟨(x 1).val, (by show _ < 32; omega), (by show (x 1).val = 0 + 1 * _; omega)⟩
    | ⟨2, _⟩ => exact ⟨(x 2).val, (by show _ < 128; omega), (by show (x 2).val = 0 + 1 * _; omega)⟩

/-- An element of row `r`, found through the view of that row, is itself. -/
theorem row_emb {r : ℕ} {off : Fin 3 → ℕ} (e : off = ![r, 0, 0]) (h : ∀ a, off a + S1x32x128.size a ≤ S1024x32x128.size a)
    (x : S1024x32x128.Idx) (hx : (x 0).val = r) :
    (A9.access (rowR off h)).emb (ix3 (0 : Fin 1) (⟨(x 1).val, (x 1).isLt⟩ : Fin 32) (⟨(x 2).val, (x 2).isLt⟩ : Fin 128) : S1x32x128.Idx) = x := by
  subst e
  refine funext fun d => Fin.ext ?_
  match d with
  | ⟨0, _⟩ => show r + 1 * 0 = (x 0).val; omega
  | ⟨1, _⟩ => show 0 + 1 * (x 1).val = (x 1).val; omega
  | ⟨2, _⟩ => show 0 + 1 * (x 2).val = (x 2).val; omega

/-- Row `r` is stored: it then holds `v`, and the other rows what they held. Only the pieces from the `m`-th lot of
    rows on need be held. -/
theorem putRow_wp (c : Dev nD) {r m : ℕ} {off : Fin 3 → ℕ} (e : off = ![r, 0, 0])
    (h : ∀ a, off a + S1x32x128.size a ≤ S1024x32x128.size a) (hr : 256 * m ≤ r) (v : FVec F S1x32x128 .f32)
    (f : FVec F S1024x32x128 .f32) (Q : PUnit → sProp 𝕄) :
    iprop(own9 c (restS (32 * m)) f
        ∗ (∀ f' : FVec F S1024x32x128 .f32,
            ⌜∀ x, ((x 0).val = r → f' x = v (ix3 (0 : Fin 1) (⟨(x 1).val, (x 1).isLt⟩ : Fin 32) (⟨(x 2).val, (x 2).isLt⟩ : Fin 128)))
              ∧ ((x 0).val ≠ r → f' x = f x)⌝ -∗ own9 c (restS (32 * m)) f' -∗ Q ⟨⟩))
      ⊢ wp frame (wpE (defs₀ (F := F)) Variants.none (c : Thread nD τ) none) Set.univ (putRow A9 off h v) Q := by
  have hset : (A9.access (rowR off h)).set = (rowR off h).set := View.set_slice_whole _ _
  have hsub : (rowR off h).set ⊆ restS (32 * m) := fun x hx => by
    have := (mem_row e h x).1 hx
    refine Finset.mem_filter.2 ⟨Finset.mem_univ _, ?_⟩
    unfold pnoS; omega
  iintro ⟨H, Hk⟩
  unfold putRow
  iapply (wp_load_rect Variants.none (c : Thread nD τ) none Set.univ (m := A9) (r := rowR off h) (S := restS (32 * m)) (f := f) (by rw [hset]; exact hsub)) $$ H
  iintro H
  simp only [retA]
  iapply (wp_store Variants.none (c : Thread nD τ) none Set.univ (m := A9) (r := rowR off h) (S := restS (32 * m)) (f := f)
    (by rw [View.setOn_univ, hset]; exact hsub)) $$ H
  iintro H
  sl_step
  iapply Hk $$ [] [H]
  rotate_left
  · iexact H
  · ipureintro
    intro x
    constructor
    · intro hx
      conv_lhs => rw [← row_emb e h x hx]
      exact View.write_emb_of_mem _ _ (Finset.mem_univ _)
    · intro hx
      refine View.write_of_not_mem _ _ _ ?_
      rw [View.setOn_univ, hset, mem_row e h]
      exact hx

/-! ## One loop -/

/-- A counted loop of the recurrence stores rows `r0`, `r0 + 1`, … : it starts from the state after step `r0 - 1` and ends
    with the state after its last one. -/
theorem loop_wp (c : Dev nD) (l : Scf.Loop 32) (hok : l.OK) (p : Par F) (h0 c0 z : FVec F S32x128 .f32)
    (off : Fin l.trips → Fin 3 → ℕ) (hinb : ∀ k a, off k a + S1x32x128.size a ≤ S1024x32x128.size a)
    (r0 m : ℕ) (hoff : ∀ k, off k = ![r0 + 1 + k.val, 0, 0]) (hm : 256 * m ≤ r0 + 1)
    (f : FVec F S1024x32x128 .f32) (hf : ∀ x, (x 0).val < r0 + 1 → f x = rows p h0 c0 z x) (Q : HC F → sProp 𝕄) :
    iprop(own9 c (restS (32 * m)) f
        ∗ (∀ f' : FVec F S1024x32x128 .f32, ⌜∀ x, (x 0).val < r0 + 1 + l.trips → f' x = rows p h0 c0 z x⌝ -∗ own9 c (restS (32 * m)) f'
            -∗ Q (stt p h0 c0 z (r0 + l.trips))))
      ⊢ wp frame (wpE (defs₀ (F := F)) Variants.none (c : Thread nD τ) none) Set.univ
          (Scf.Loop.for l hok (stt p h0 c0 z r0) (trip A9 p off hinb)) Q := by
  refine BIBase.Entails.trans ?_ (Scf.wp_for frame (wpE (defs₀ (F := F)) Variants.none (c : Thread nD τ) none) Set.univ l.lb l.ub l.st hok _ _
    (fun k acc => iprop(⌜acc = stt p h0 c0 z (r0 + k)⌝ ∗ ∃ f' : FVec F S1024x32x128 .f32,
      ⌜∀ x, (x 0).val < r0 + 1 + k → f' x = rows p h0 c0 z x⌝ ∗ own9 c (restS (32 * m)) f')) ?_)
  · iintro ⟨H, Hk⟩
    isplitl [H]
    · isplitr; · ipureintro; rfl
      iexists f
      isplitr; · ipureintro; exact hf
      iexact H
    · iintro %acc ⟨%hacc, %f', %hf', H⟩
      subst hacc
      iapply Hk $$ [] [H]
      rotate_left
      · iexact H
      · ipureintro; exact hf'
  · intro k acc
    iintro ⟨%hacc, %f', %hf', H⟩
    subst hacc
    unfold trip
    rw [show ∀ (x : PG F PUnit) (g : PUnit → PG F (HC F)) (Q : HC F → sProp 𝕄),
        wp frame (wpE (defs₀ (F := F)) Variants.none (c : Thread nD τ) none) Set.univ (Prog.bind x g) Q
          = wp frame (wpE (defs₀ (F := F)) Variants.none (c : Thread nD τ) none) Set.univ x
            (fun a => wp frame (wpE (defs₀ (F := F)) Variants.none (c : Thread nD τ) none) Set.univ (g a) Q)
      from fun x g Q => wp_bind frame _ _ x g Q]
    iapply (putRow_wp c (hoff k) (hinb k) (m := m) (by omega) _ f' _)
    isplitl [H]; · iexact H
    iintro %f'' %hf'' H
    sl_step
    isplitr; · ipureintro; rfl
    iexists f''
    isplitr
    · ipureintro
      intro x hx
      by_cases e : (x 0).val = r0 + 1 + k.val
      · rw [(hf'' x).1 e, cellRow_apply]
        unfold rows
        rw [e, show r0 + 1 + k.val = (r0 + k.val) + 1 by omega]
        rfl
      · rw [(hf'' x).2 e]
        exact hf' x (by omega)
    iexact H

/-! ## The whole recurrence -/

/-- The first loop takes 255 steps, since the first step is done before it, -/
theorem trips1 : k1_t1_loop.trips = 255 := by decide +kernel
/-- and each of the other three 256: the second, -/
theorem trips2 : k1_t2_loop.trips = 256 := by decide +kernel
/-- the third, -/
theorem trips3 : k1_t3_loop.trips = 256 := by decide +kernel
/-- and the fourth. -/
theorem trips4 : k1_t4_loop.trips = 256 := by decide +kernel
/-- Trip `k` of the first loop stores row `k + 1`, -/
theorem off1_eq : ∀ k, k1_off1 k = ![0 + 1 + k.val, 0, 0] := by decide +kernel
/-- of the second row `k + 256`, -/
theorem off2_eq : ∀ k, k1_off2 k = ![255 + 1 + k.val, 0, 0] := by decide +kernel
/-- of the third row `k + 512`, -/
theorem off3_eq : ∀ k, k1_off3 k = ![511 + 1 + k.val, 0, 0] := by decide +kernel
/-- and of the fourth row `k + 768`. -/
theorem off4_eq : ∀ k, k1_off4 k = ![767 + 1 + k.val, 0, 0] := by decide +kernel

/-- What a sequence of two programs establishes is what the first does for what the second needs. -/
theorem wp_bindP {α β : Type} (c : Dev nD) (x : PG F α) (g : α → PG F β) (Q : β → sProp 𝕄) :
    wp frame (wpE (defs₀ (F := F)) Variants.none (c : Thread nD τ) none) Set.univ (Prog.bind x g) Q
      = wp frame (wpE (defs₀ (F := F)) Variants.none (c : Thread nD τ) none) Set.univ x
        (fun a => wp frame (wpE (defs₀ (F := F)) Variants.none (c : Thread nD τ) none) Set.univ (g a) Q) :=
  wp_bind frame _ _ x g Q

/-- A loop and the 32 copies of the rows finished with it. -/
theorem lot_wp (c : Dev nD) (l : Scf.Loop 32) (hok : l.OK) (p : Par F) (h0 c0 z : FVec F S32x128 .f32)
    (off : Fin l.trips → Fin 3 → ℕ) (hinb : ∀ k a, off k a + S1x32x128.size a ≤ S1024x32x128.size a)
    (r0 m n : ℕ) (hl : r0 + 1 + l.trips = 256 * (m + 1)) (hoff : ∀ k, off k = ![r0 + 1 + k.val, 0, 0]) (hm : 256 * m ≤ r0 + 1) (hm4 : m < 4)
    (en : n = 32 * m)
    (f : FVec F S1024x32x128 .f32) (hf : ∀ x, (x 0).val < r0 + 1 → f x = rows p h0 c0 z x) (g : FVec F S32x1024x128 .f32)
    {α : Type} (K : HC F → PG F α) (Q : α → sProp 𝕄) :
    iprop(own9 c (restS n) f ∗ own10 c (restD n) g ∗ batch c (rows p h0 c0 z) n 0
        ∗ (∀ f' : FVec F S1024x32x128 .f32, ⌜∀ x, (x 0).val < 256 * (m + 1) → f' x = rows p h0 c0 z x⌝ -∗
            iprop(own9 c (restS (n + 32)) f' ∗ own10 c (restD (n + 32)) g ∗ batch c (rows p h0 c0 z) (n + 32) 0)
            -∗ wp frame (wpE (defs₀ (F := F)) Variants.none (c : Thread nD τ) none) Set.univ (K (stt p h0 c0 z (r0 + l.trips))) Q))
      ⊢ wp frame (wpE (defs₀ (F := F)) Variants.none (c : Thread nD τ) none) Set.univ
          (Prog.bind (Scf.Loop.for l hok ((stt p h0 c0 z r0).1, (stt p h0 c0 z r0).2) (trip A9 p off hinb)) fun r =>
            seqL (issue A9 A10 cc1_scratch2) (K r) n [32]) Q := by
  subst en
  rw [wp_bindP]
  iintro ⟨H9, H10, HB, Hk⟩
  iapply (loop_wp c l hok p h0 c0 z off hinb r0 m hoff hm f hf)
  isplitl [H9]; · iexact H9
  iintro %f' %hf' H9
  rw [hl] at hf'
  simp only [seqL]
  rw [wp_bindP]
  iapply (issues_wp c (rows p h0 c0 z) f' g 32 (32 * m) (by omega) fun x h1 h2 => hf' x (by unfold pnoS at h2; omega))
  isplitl [H9]; · iexact H9
  isplitl [H10]; · iexact H10
  isplitl [HB]; · iexact HB
  iintro H
  iapply Hk $$ [] [H]
  rotate_left
  · iexact H
  · ipureintro; exact hf'

/-- The recurrence: whatever the two buffers held, at the end one holds the hidden rows and the other their exchange. -/
theorem rec_wp (c : Dev nD) (i : grid1.Coords) (h : k1_cond1 i = 1#1) (p : Par F) (h0 c0 z : FVec F S32x128 .f32)
    (f : FVec F S1024x32x128 .f32) (g : FVec F S32x1024x128 .f32) (Q : PUnit → sProp 𝕄) :
    iprop(own9 c Finset.univ f ∗ own10 c Finset.univ g ∗ semVal ((c : Thread nD τ), SemLoc.dma cc1_scratch2.sem) 0
        ∗ (∃ W, owes (c : Thread nD τ) 0 W)
        ∗ (iprop(own9 c Finset.univ (rows p h0 c0 z) ∗ own10 c Finset.univ (tr (rows p h0 c0 z))
            ∗ semVal ((c : Thread nD τ), SemLoc.dma cc1_scratch2.sem) 0 ∗ (∃ W, owes (c : Thread nD τ) 0 W)) -∗ Q ⟨⟩))
      ⊢ wp frame (wpE (defs₀ (F := F)) Variants.none (c : Thread nD τ) none) Set.univ
          (recProg i A9 A10 cc1_scratch2 h p (firstC p h0 c0 z) (firstO p h0 z)) Q := by
  iintro ⟨H9, H10, Hv, Ho, Hk⟩
  imod (Transfers.batch_alloc' (Lvl := ℕ) (countersEmb (U := Pipeline.UD sig nD τ)) (c : Thread nD τ) () credit
    (deliver (F := F) c (rows p h0 c0 z)) (sm := .dma cc1_scratch2.sem) (E := Set.univ)) $$ Hv with HB
  unfold recProg recLots
  rw [wp_bindP]
  rw [← restS_zero, ← restD_zero]
  iapply (putRow_wp c (r := 0) (m := 0) (off := ![0, 0, 0]) rfl inb_S1024x32x128_S1x32x128_0_0_0 (Nat.zero_le _) (firstRow p h0 c0 z) f _)
  isplitl [H9]; · iexact H9
  iintro %f1 %hf1 H9
  iapply (lot_wp c k1_t1_loop (k1_t1_ok i h) p h0 c0 z k1_off1 (fun k => k1_off1_inb i k h) 0 0 0 (by rw [trips1]) off1_eq (by omega) (by omega) rfl
    f1 (fun x hx => by
      rw [(hf1 x).1 (by omega), firstRow_apply]
      unfold rows
      rw [show (x 0).val = 0 by omega]; rfl) g)
  isplitl [H9]; · iexact H9
  isplitl [H10]; · iexact H10
  isplitl [HB]; · iexact HB
  iintro %f2 %hf2 ⟨H9, H10, HB⟩
  rw [trips1]
  iapply (lot_wp c k1_t2_loop (k1_t2_ok i h) p h0 c0 z k1_off2 (fun k => k1_off2_inb i k h) 255 1 32 (by rw [trips2]) off2_eq (by omega) (by omega) rfl
    f2 hf2 g)
  isplitl [H9]; · iexact H9
  isplitl [H10]; · iexact H10
  isplitl [HB]; · iexact HB
  iintro %f3 %hf3 ⟨H9, H10, HB⟩
  rw [trips2]
  iapply (lot_wp c k1_t3_loop (k1_t3_ok i h) p h0 c0 z k1_off3 (fun k => k1_off3_inb i k h) 511 2 64 (by rw [trips3]) off3_eq (by omega) (by omega) rfl
    f3 hf3 g)
  isplitl [H9]; · iexact H9
  isplitl [H10]; · iexact H10
  isplitl [HB]; · iexact HB
  iintro %f4 %hf4 ⟨H9, H10, HB⟩
  rw [trips3]
  iapply (lot_wp c k1_t4_loop (k1_t4_ok i h) p h0 c0 z k1_off4 (fun k => k1_off4_inb i k h) 767 3 96 (by rw [trips4]) off4_eq (by omega) (by omega) rfl
    f4 hf4 g)
  isplitl [H9]; · iexact H9
  isplitl [H10]; · iexact H10
  isplitl [HB]; · iexact HB
  iintro %f5 %hf5 ⟨-, -, HB⟩
  simp only [seqL]
  rw [wp_bindP]
  iapply (awaits_wp c (rows p h0 c0 z) 127 0 rfl)
  rw [Nat.zero_mul]
  isplitl [HB]; · iexact HB
  isplitl [Ho]; · iexact Ho
  iintro ⟨HD, Hv, Ho⟩
  sl_step
  rw [restS_zero, restD_zero]
  ihave HD' := (delivered c (rows p h0 c0 z)) $$ HD
  icases HD' with ⟨H9, H10⟩
  iapply Hk
  isplitl [H9]; · iexact H9
  isplitl [H10]; · iexact H10
  isplitl [Hv]; · iexact Hv
  iexact Ho

end Cert.KernelIdeal.Hand

end
-- ==== Proof.KernelIdeal.Lstm.lean ====
/- The body of the second call on whole buffers: at the first tile of a batch half the recurrence fills the transposed
   buffer, and at every tile the 32 products with the tile's weights fill the result's block. -/
module

public import proofs.«01_k».proof.Proof.KernelIdeal.Rec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Row `n` of the table of scalars, entry `g`. -/
abbrev cell (x : Vec F S3x4 .f32) (n : Fin 3) (g : Fin 4) : Elt F .f32 := x (ix2 n g)

/-- The twelve scalars in the table: a row of input weights, one of recurrent weights and one of biases. -/
def par (x : Vec F S3x4 .f32) : Par F :=
  ⟨cell x 0 0, cell x 0 1, cell x 0 2, cell x 0 3, cell x 1 0, cell x 1 1, cell x 1 2, cell x 1 3,
    cell x 2 0, cell x 2 1, cell x 2 2, cell x 2 3⟩

/-- One scalar is read. -/
theorem scalar_wp (c : Dev nD) (a2 : Memref sig .tc .smem S3x4 .f32) (x : Vec F S3x4 .f32) (n : Fin 3) (g : Fin 4) {off : Fin 2 → ℕ}
    (e : off = ![n.val, g.val]) (inb : ∀ a, off a + S1x1.size a ≤ S3x4.size a)
    {α : Type} (k : Elt F .f32 → PG F α) (Q : α → sProp 𝕄) :
    iprop(owns (c : Thread nD τ) a2 fullShare x
        ∗ (owns (c : Thread nD τ) a2 fullShare x -∗ wp frame (wpE (defs₀ (F := F)) Variants.none (c : Thread nD τ) none) Set.univ (k (cell x n g)) Q))
      ⊢ wp frame (wpE (defs₀ (F := F)) Variants.none (c : Thread nD τ) none) Set.univ
          (Prog.bind (smemLoad a2 (Rect.unit (s := S3x4) off S1x1.size inb) numel1_S1x1 rfl) k) Q := by
  subst e
  rw [wp_bindP]
  unfold owns
  iintro ⟨⟨%f, %hf, H⟩, Hk⟩
  subst hf
  unfold smemLoad
  iapply (wp_smemLoadElt Variants.none (c : Thread nD τ) none Set.univ (m := a2)
    (r := Rect.unit (s := S3x4) ![n.val, g.val] S1x1.size inb) (S := a2.view.set) (f := f) (View.set_slice_subset _ _)) $$ H
  iintro H
  sl_step
  have he : (a2.access (Rect.unit (s := S3x4) ![n.val, g.val] S1x1.size inb)).read (Elt F) f (Shape.Idx.first (numel1_S1x1.symm ▸ Nat.one_pos))
      = cell (a2.view.read (Elt F) f) n g := by
    show a2.view.read (Elt F) f ((Rect.unit (s := S3x4) ![n.val, g.val] S1x1.size inb).emb _) = a2.view.read (Elt F) f (ix2 n g)
    refine congrArg _ (funext fun d => Fin.ext ?_)
    have h0 (j : S1x1.Idx) : n.val + 1 * (j 0).val = n.val := by have : (j 0).val < 1 := (j 0).isLt; omega
    have h1 (j : S1x1.Idx) : g.val + 1 * (j 1).val = g.val := by have : (j 1).val < 1 := (j 1).isLt; omega
    match d with
    | ⟨0, _⟩ => exact h0 _
    | ⟨1, _⟩ => exact h1 _
  rw [he]
  iapply Hk
  iexists f
  isplitr; · ipureintro; rfl
  iexact H

/-- The table is read. -/
theorem table_wp (c : Dev nD) (a2 : Memref sig .tc .smem S3x4 .f32) (x : Vec F S3x4 .f32) (Q : Par F → sProp 𝕄) :
    iprop(owns (c : Thread nD τ) a2 fullShare x ∗ (owns (c : Thread nD τ) a2 fullShare x -∗ Q (par x)))
      ⊢ wp frame (wpE (defs₀ (F := F)) Variants.none (c : Thread nD τ) none) Set.univ (table a2) Q := by
  unfold table par
  simp only [bindE]
  iintro ⟨H, Hk⟩
  iapply (scalar_wp c a2 x 0 0 rfl)
  isplitl [H]; · iexact H
  iintro H
  iapply (scalar_wp c a2 x 0 1 rfl)
  isplitl [H]; · iexact H
  iintro H
  iapply (scalar_wp c a2 x 0 2 rfl)
  isplitl [H]; · iexact H
  iintro H
  iapply (scalar_wp c a2 x 0 3 rfl)
  isplitl [H]; · iexact H
  iintro H
  iapply (scalar_wp c a2 x 1 0 rfl)
  isplitl [H]; · iexact H
  iintro H
  iapply (scalar_wp c a2 x 1 1 rfl)
  isplitl [H]; · iexact H
  iintro H
  iapply (scalar_wp c a2 x 1 2 rfl)
  isplitl [H]; · iexact H
  iintro H
  iapply (scalar_wp c a2 x 1 3 rfl)
  isplitl [H]; · iexact H
  iintro H
  iapply (scalar_wp c a2 x 2 0 rfl)
  isplitl [H]; · iexact H
  iintro H
  iapply (scalar_wp c a2 x 2 1 rfl)
  isplitl [H]; · iexact H
  iintro H
  iapply (scalar_wp c a2 x 2 2 rfl)
  isplitl [H]; · iexact H
  iintro H
  iapply (scalar_wp c a2 x 2 3 rfl)
  isplitl [H]; · iexact H
  iintro H
  sl_step
  iapply Hk
  iexact H

/-- A whole row block is read. -/
theorem getRow_wp (c : Dev nD) (a : Memref sig .tc .vmem S32x128 .f32) (x : Vec F S32x128 .f32) {α : Type}
    (k : Vec F S32x128 .f32 → PG F α) (Q : α → sProp 𝕄) :
    iprop(owns (c : Thread nD τ) a fullShare x
        ∗ (owns (c : Thread nD τ) a fullShare x -∗ wp frame (wpE (defs₀ (F := F)) Variants.none (c : Thread nD τ) none) Set.univ (k x) Q))
      ⊢ wp frame (wpE (defs₀ (F := F)) Variants.none (c : Thread nD τ) none) Set.univ (Prog.bind (getRow a) k) Q := by
  rw [wp_bindP]
  unfold owns
  iintro ⟨⟨%f, %hf, H⟩, Hk⟩
  subst hf
  iapply (wp_load_rect Variants.none (c : Thread nD τ) none Set.univ (m := a)
    (r := Rect.unit (s := S32x128) ![0, 0] S32x128.size inb_S32x128_S32x128_0_0) (S := a.view.set) (f := f) (View.set_slice_subset _ _)) $$ H
  iintro H
  sl_step
  have he : (a.access (Rect.unit (s := S32x128) ![0, 0] S32x128.size inb_S32x128_S32x128_0_0)).read (Elt F) f = a.view.read (Elt F) f := by
    funext j
    show a.view.read (Elt F) f ((Rect.unit (s := S32x128) ![0, 0] S32x128.size inb_S32x128_S32x128_0_0).emb j) = a.view.read (Elt F) f j
    refine congrArg _ (funext fun d => Fin.ext ?_)
    match d with
    | ⟨0, _⟩ => show 0 + 1 * (j 0).val = (j 0).val; omega
    | ⟨1, _⟩ => show 0 + 1 * (j 1).val = (j 1).val; omega
  rw [he]
  iapply Hk
  iexists f
  isplitr; · ipureintro; rfl
  iexact H

/-- The first tile's share: the recurrence runs from the rows read. -/
theorem start_wp (c : Dev nD) (i : grid1.Coords) (h : k1_cond1 i = 1#1) (a2 : Memref sig .tc .smem S3x4 .f32)
    (a3 a4 a5 : Memref sig .tc .vmem S32x128 .f32) (x2 : Vec F S3x4 .f32) (x3 x4 x5 : Vec F S32x128 .f32) (Q : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5
        ∗ (∃ f, own9 c Finset.univ f) ∗ (∃ g, own10 c Finset.univ g) ∗ semVal ((c : Thread nD τ), SemLoc.dma cc1_scratch2.sem) 0
        ∗ (∃ W, owes (c : Thread nD τ) 0 W)
        ∗ (iprop(owns (c : Thread nD τ) a2 fullShare x2 ∗ owns (c : Thread nD τ) a3 fullShare x3 ∗ owns (c : Thread nD τ) a4 fullShare x4
            ∗ owns (c : Thread nD τ) a5 fullShare x5
            ∗ (∃ f, own9 c Finset.univ f) ∗ own10 c Finset.univ (tr (rows (par x2) x4 x5 x3))
            ∗ semVal ((c : Thread nD τ), SemLoc.dma cc1_scratch2.sem) 0 ∗ (∃ W, owes (c : Thread nD τ) 0 W)) -∗ Q ⟨⟩))
      ⊢ wp frame (wpE (defs₀ (F := F)) Variants.none (c : Thread nD τ) none) Set.univ
          (startProg i a2 a3 a4 a5 A9 A10 cc1_scratch2 h) Q := by
  unfold startProg
  rw [wp_bindP]
  iintro ⟨H2, H3, H4, H5, ⟨%f, H9⟩, ⟨%g, H10⟩, Hv, Ho, Hk⟩
  iapply (table_wp c a2 x2)
  isplitl [H2]; · iexact H2
  iintro H2
  iapply (getRow_wp c a4 x4)
  isplitl [H4]; · iexact H4
  iintro H4
  iapply (getRow_wp c a5 x5)
  isplitl [H5]; · iexact H5
  iintro H5
  iapply (getRow_wp c a3 x3)
  isplitl [H3]; · iexact H3
  iintro H3
  iapply (rec_wp c i h (par x2) x4 x5 x3 f g)
  isplitl [H9]; · iexact H9
  isplitl [H10]; · iexact H10
  isplitl [Hv]; · iexact Hv
  isplitl [Ho]; · iexact Ho
  iintro ⟨H9, H10, Hv, Ho⟩
  iapply Hk
  isplitl [H2]; · iexact H2
  isplitl [H3]; · iexact H3
  isplitl [H4]; · iexact H4
  isplitl [H5]; · iexact H5
  isplitl [H9]; · iexists _; iexact H9
  isplitl [H10]; · iexact H10
  isplitl [Hv]; · iexact Hv
  iexact Ho

/-! ## The products -/

/-- The slice of the transposed buffer with the rows of sublane `r`. -/
def lane (g : FVec F S32x1024x128 .f32) (r : Fin 32) : Vec F S1x1024x128 .f32 :=
  fun y => g (ix3 r (⟨(y 1).val, (y 1).isLt⟩ : Fin 1024) (⟨(y 2).val, (y 2).isLt⟩ : Fin 128))

/-- The tile of the result: its `128 r + s`-th row is the product of sublane `r`'s rows at lane `s` with the weights, plus
    the bias. -/
def tile (w : Vec F S1024x256 .f32) (b : Vec F S1x256 .f32) (g : FVec F S32x1024x128 .f32) : Vec F S4096x256 .f32 :=
  fun x => k1_pay37 w b (lane g (⟨(x 0).val / 128, by have : (x 0).val < 4096 := (x 0).isLt; omega⟩ : Fin 32))
    (ix2 (⟨(x 0).val % 128, Nat.mod_lt _ (by decide)⟩ : Fin 128) (⟨(x 1).val, (x 1).isLt⟩ : Fin 256) : S128x256.Idx)

/-- Product `n` fills rows `128 n` to `128 n + 127` of the tile. -/
theorem prod_wp (c : Dev nD) (a8 : Memref sig .tc .vmem S4096x256 .f32) (w : Vec F S1024x256 .f32) (b : Vec F S1x256 .f32)
    (g : FVec F S32x1024x128 .f32) {n : ℕ} (hn : n < 32) (o : Vec F S4096x256 .f32) (Q : PUnit → sProp 𝕄) :
    iprop(owns (c : Thread nD τ) a8 fullShare o ∗ own10 c Finset.univ g
        ∗ (∀ o' : Vec F S4096x256 .f32,
            ⌜∀ x, ((x 0).val / 128 = n → o' x = tile w b g x) ∧ ((x 0).val / 128 ≠ n → o' x = o x)⌝
              -∗ owns (c : Thread nD τ) a8 fullShare o' -∗ own10 c Finset.univ g -∗ Q ⟨⟩))
      ⊢ wp frame (wpE (defs₀ (F := F)) Variants.none (c : Thread nD τ) none) Set.univ (prod a8 A10 w b n) Q := by
  have hnm : n % 32 = n := Nat.mod_eq_of_lt hn
  unfold prod owns
  simp only [bindE]
  iintro ⟨⟨%f, %hf, H8⟩, H10, Hk⟩
  subst hf
  rw [wp_bindP]
  iapply (wp_load_rect Variants.none (c : Thread nD τ) none Set.univ (m := A10)
    (r := Rect.unit (s := S32x1024x128) ![n % 32, 0, 0] S1x1024x128.size (inbA n)) (S := Finset.univ) (f := g) (Finset.subset_univ _)) $$ H10
  iintro H10
  sl_step
  rw [wp_bindP]
  iapply (wp_load_rect Variants.none (c : Thread nD τ) none Set.univ (m := a8)
    (r := Rect.unit (s := S4096x256) ![128 * (n % 32), 0] S128x256.size (inbO n)) (S := a8.view.set) (f := f) (View.set_slice_subset _ _)) $$ H8
  iintro H8
  sl_step
  iapply (wp_store Variants.none (c : Thread nD τ) none Set.univ (m := a8)
    (r := Rect.unit (s := S4096x256) ![128 * (n % 32), 0] S128x256.size (inbO n)) (S := a8.view.set) (f := f)
    (by rw [View.setOn_univ]; exact View.set_slice_subset _ _)) $$ H8
  iintro H8
  sl_step
  have hl : (A10.access (Rect.unit (s := S32x1024x128) ![n % 32, 0, 0] S1x1024x128.size (inbA n))).read (Elt F) g = lane g (⟨n, hn⟩ : Fin 32) := by
    funext y
    show g ((Rect.unit (s := S32x1024x128) ![n % 32, 0, 0] S1x1024x128.size (inbA n)).emb y) = lane g _ y
    unfold lane
    refine congrArg g (funext fun d => Fin.ext ?_)
    match d with
    | ⟨0, _⟩ => have : (y 0).val < 1 := (y 0).isLt; show n % 32 + 1 * (y 0).val = n; omega
    | ⟨1, _⟩ => show 0 + 1 * (y 1).val = (y 1).val; omega
    | ⟨2, _⟩ => show 0 + 1 * (y 2).val = (y 2).val; omega
  rw [hl]
  iapply Hk $$ [] [H8] [H10]
  rotate_left
  · iexists _
    isplitr
    swap; · iexact H8
    ipureintro; rfl
  · iexact H10
  · ipureintro
    intro x
    have h0 : (x 0).val < 4096 := (x 0).isLt
    have h1 : (x 1).val < 256 := (x 1).isLt
    constructor
    · intro hx
      have hx' : (Rect.unit (s := S4096x256) ![128 * (n % 32), 0] S128x256.size (inbO n)).emb
          (ix2 (⟨(x 0).val % 128, Nat.mod_lt _ (by decide)⟩ : Fin 128) (⟨(x 1).val, (x 1).isLt⟩ : Fin 256) : S128x256.Idx) = x := by
        refine funext fun d => Fin.ext ?_
        match d with
        | ⟨0, _⟩ => show 128 * (n % 32) + 1 * ((x 0).val % 128) = (x 0).val; omega
        | ⟨1, _⟩ => show 0 + 1 * (x 1).val = (x 1).val; omega
      conv_lhs => rw [← hx']
      rw [View.read_slice_write_emb _ _ _ (Finset.mem_univ _)]
      unfold tile
      simp only [hx]
    · intro hx
      refine View.read_slice_write_of_not_mem _ _ _ _ ?_
      intro hm
      obtain ⟨j, -, rfl⟩ := Finset.mem_map.1 hm
      apply hx
      have : (j 0).val < 128 := (j 0).isLt
      show (128 * (n % 32) + 1 * (j 0).val) / 128 = n
      omega

/-- The products from number `lo` on. -/
theorem prods_wp (c : Dev nD) (a8 : Memref sig .tc .vmem S4096x256 .f32) (w : Vec F S1024x256 .f32) (b : Vec F S1x256 .f32)
    (g : FVec F S32x1024x128 .f32) (n lo : ℕ) (hn : lo + n = 32) (o : Vec F S4096x256 .f32)
    (ho : ∀ x, (x 0).val / 128 < lo → o x = tile w b g x) (Q : PUnit → sProp 𝕄) :
    iprop(owns (c : Thread nD τ) a8 fullShare o ∗ own10 c Finset.univ g
        ∗ (owns (c : Thread nD τ) a8 fullShare (tile w b g) -∗ own10 c Finset.univ g -∗ Q ⟨⟩))
      ⊢ wp frame (wpE (defs₀ (F := F)) Variants.none (c : Thread nD τ) none) Set.univ (seqN (prod a8 A10 w b) lo n) Q := by
  induction n generalizing lo o with
  | zero =>
    have e : o = tile w b g := funext fun x => ho x (by have : (x 0).val < 4096 := (x 0).isLt; omega)
    subst e
    iintro ⟨H8, H10, Hk⟩
    unfold seqN
    sl_step
    iapply Hk $$ H8 H10
  | succ n ih =>
    rw [wp_seqN_succ]
    iintro ⟨H8, H10, Hk⟩
    iapply (prod_wp c a8 w b g (n := lo) (by omega) o)
    isplitl [H8]; · iexact H8
    isplitl [H10]; · iexact H10
    iintro %o' %ho' H8 H10
    iapply (ih (lo + 1) (by omega) o' fun x hx => by
      by_cases e : (x 0).val / 128 = lo
      · exact (ho' x).1 e
      · rw [(ho' x).2 e]; exact ho x (by omega))
    isplitl [H8]; · iexact H8
    isplitl [H10]; · iexact H10
    iexact Hk

/-- Loading the whole block of the head's weights reads what the buffer holds, -/
theorem ld_w (a : Memref sig .tc .vmem S1024x256 .f32) (f : a.view.ty.Contents (Elt F)) :
    (a.access (Rect.unit (s := S1024x256) ![0, 0] S1024x256.size inb_S1024x256_S1024x256_0_0)).read (Elt F) f = a.view.read (Elt F) f := by
  funext j
  show a.view.read (Elt F) f ((Rect.unit (s := S1024x256) ![0, 0] S1024x256.size inb_S1024x256_S1024x256_0_0).emb j) = a.view.read (Elt F) f j
  refine congrArg _ (funext fun d => Fin.ext ?_)
  match d with
  | ⟨0, _⟩ => show 0 + 1 * (j 0).val = (j 0).val; omega
  | ⟨1, _⟩ => show 0 + 1 * (j 1).val = (j 1).val; omega

/-- and so does loading the whole block of the head's bias. -/
theorem ld_b (a : Memref sig .tc .vmem S1x256 .f32) (f : a.view.ty.Contents (Elt F)) :
    (a.access (Rect.unit (s := S1x256) ![0, 0] S1x256.size inb_S1x256_S1x256_0_0)).read (Elt F) f = a.view.read (Elt F) f := by
  funext j
  show a.view.read (Elt F) f ((Rect.unit (s := S1x256) ![0, 0] S1x256.size inb_S1x256_S1x256_0_0).emb j) = a.view.read (Elt F) f j
  refine congrArg _ (funext fun d => Fin.ext ?_)
  match d with
  | ⟨0, _⟩ => show 0 + 1 * (j 0).val = (j 0).val; omega
  | ⟨1, _⟩ => show 0 + 1 * (j 1).val = (j 1).val; omega

/-- The weights and the bias are read, the 32 products fill the tile. -/
theorem prodProg_wp (c : Dev nD) (a6 : Memref sig .tc .vmem S1024x256 .f32) (a7 : Memref sig .tc .vmem S1x256 .f32)
    (a8 : Memref sig .tc .vmem S4096x256 .f32) (w : Vec F S1024x256 .f32) (b : Vec F S1x256 .f32)
    (g : FVec F S32x1024x128 .f32) (Q : PUnit → sProp 𝕄) :
    iprop(owns (c : Thread nD τ) a6 fullShare w ∗ owns (c : Thread nD τ) a7 fullShare b ∗ (∃ o, owns (c : Thread nD τ) a8 fullShare o)
        ∗ own10 c Finset.univ g
        ∗ (iprop(owns (c : Thread nD τ) a6 fullShare w ∗ owns (c : Thread nD τ) a7 fullShare b
            ∗ owns (c : Thread nD τ) a8 fullShare (tile w b g) ∗ own10 c Finset.univ g) -∗ Q ⟨⟩))
      ⊢ wp frame (wpE (defs₀ (F := F)) Variants.none (c : Thread nD τ) none) Set.univ (prodProg a6 a7 a8 A10) Q := by
  unfold prodProg
  rw [wp_bindP]
  iintro ⟨H6, H7, ⟨%o, H8⟩, H10, Hk⟩
  unfold owns
  icases H6 with ⟨%f6, %h6, H6⟩
  icases H7 with ⟨%f7, %h7, H7⟩
  subst h6 h7
  iapply (wp_load_rect Variants.none (c : Thread nD τ) none Set.univ (m := a6)
    (r := Rect.unit (s := S1024x256) ![0, 0] S1024x256.size inb_S1024x256_S1024x256_0_0) (S := a6.view.set) (f := f6) (View.set_slice_subset _ _)) $$ H6
  iintro H6
  rw [ld_w]
  sl_step
  rw [wp_bindP]
  iapply (wp_load_rect Variants.none (c : Thread nD τ) none Set.univ (m := a7)
    (r := Rect.unit (s := S1x256) ![0, 0] S1x256.size inb_S1x256_S1x256_0_0) (S := a7.view.set) (f := f7) (View.set_slice_subset _ _)) $$ H7
  iintro H7
  rw [ld_b]
  sl_step
  iapply (prods_wp c a8 _ _ g 32 0 rfl o fun x hx => absurd hx (Nat.not_lt_zero _))
  unfold owns
  isplitl [H8]; · iexact H8
  isplitl [H10]; · iexact H10
  iintro H8 H10
  iapply Hk
  isplitl [H6]
  · iexists f6; isplitr; · ipureintro; rfl
    iexact H6
  isplitl [H7]
  · iexists f7; isplitr; · ipureintro; rfl
    iexact H7
  isplitl [H8]; · iexact H8
  iexact H10

end Cert.KernelIdeal.Hand

end
-- ==== Proof.KernelIdeal.Call.lean ====
/- The pipeline of the second call: what is carried from point to point, and the obligation of the body at every point. -/
module

public import proofs.«01_k».proof.Proof.KernelIdeal.Lstm

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the batch half that point `k` lies in. -/
def pt (k : ℕ) : Fin cfg1.N := ⟨4 * (k / 4) % 8, by have h := N_1; have : 4 * (k / 4) % 8 < grid1.N := h ▸ Nat.mod_lt _ (by decide); exact this⟩

/-- The transposed hidden rows of the batch half that point `k` lies in. -/
def hid (c : Dev nD) (k : ℕ) : FVec F S32x1024x128 .f32 :=
  tr (rows (par (blk1 V c 0 (pt k))) (blk1 V c 2 (pt k)) (blk1 V c 3 (pt k)) (blk1 V c 1 (pt k)))

/-- What the result's buffer holds after the body at point `t`. -/
def res1 (c : Dev nD) (t : Fin cfg1.N) : Vec F S4096x256 .f32 := tile (blk1 V c 4 t) (blk1 V c 5 t) (hid V c t.val)

/-- A buffer whole at some contents. -/
abbrev some_ (c : Dev nD) (b : Ref sig .tc) : sProp 𝕄 := iprop(∃ f : Buf (Elt F) ((c : Thread nD τ).loc b), ((c : Thread nD τ).loc b) ↦{fullShare} f)

/-- The first call's staging buffers, idle here, and `X`. -/
def idle (c : Dev nD) (X : sProp 𝕄) : sProp 𝕄 :=
  iprop(some_ c cc0_stg0_0 ∗ some_ c cc0_stg0_1 ∗ some_ c cc0_stg1_0 ∗ some_ c cc0_stg2_0 ∗ some_ c cc0_stg3_0 ∗ some_ c cc0_stg4_0
    ∗ some_ c cc0_stg5_0 ∗ some_ c cc0_stg6_0 ∗ some_ c cc0_stg7_0 ∗ some_ c cc0_stg8_0 ∗ some_ c cc0_stg9_0 ∗ some_ c cc0_stg9_1 ∗ X)

/-- What is carried: the idle buffers, the two scratch buffers — the transposed one at the half's hidden rows, but
    before a half's first point —, the generator, the copies' semaphore at zero. -/
def phi (c : Dev nD) (k : ℕ) : sProp 𝕄 :=
  iprop(idle c iprop((∃ f, own9 c Finset.univ f) ∗ (∃ g, ⌜k % 4 ≠ 0 → g = hid V c k⌝ ∗ own10 c Finset.univ g))
    ∗ (∃ r, prngReg c r) ∗ semVal ((c : Thread nD τ), SemLoc.dma cc1_scratch2.sem) 0)

/-- The proof data. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => res1 V c t
  Φ k := phi V c k.val
  q _ := fullShare
  owed _ := 0

/-- The array behind a window of the second call is found as the launch left it. -/
theorem A_eq1 (c : Dev nD) (w : Fin cfg1.W) : (dat1 V c).A w = V c (Pipeline.arrRef spec1 w) := by
  dsimp only [dat1]

/-! At every point an input window keeps its block, and the last window gets the point's result. -/

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = res1 V c t := by dsimp only [dat1]

/-- An operand whose buffer the body leaves at the operand's block holds that block before the body at every point. -/
theorem before1 (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat1 V c).after w t) = blk1 V c w t)
    (t : Fin cfg1.N) (d : (cfg1.win w).block.Idx → Elt F (cfg1.win w).elt) :
    (dat1 V c).before w t d = (cfg1.win w).fill (cfg1.grid.coords t) d (blk1 V c w t) :=
  ((dat1 V c).before_in_eq_fetched w hw hlive hclip
    (fun t => by rw [hkeep]; unfold Dat.blockOf blk1; rw [A_eq1]) t d).trans
    (by unfold Dat.fetched Dat.blockOf blk1; rw [A_eq1])

/-! So each input window is found holding its block. -/

theorem before1_0 (c : Dev nD) (t : Fin cfg1.N) (d) : (dat1 V c).before 0 t d = blk1 V c 0 t :=
  before1 V c 0 rfl (fun _ => rfl) (fun _ _ _ => rfl) (fun t => by dsimp only [dat1]) t d
theorem before1_1 (c : Dev nD) (t : Fin cfg1.N) (d) : (dat1 V c).before 1 t d = blk1 V c 1 t :=
  before1 V c 1 rfl (fun _ => rfl) (fun _ _ _ => rfl) (fun t => by dsimp only [dat1]) t d
theorem before1_2 (c : Dev nD) (t : Fin cfg1.N) (d) : (dat1 V c).before 2 t d = blk1 V c 2 t :=
  before1 V c 2 rfl (fun _ => rfl) (fun _ _ _ => rfl) (fun t => by dsimp only [dat1]) t d
theorem before1_3 (c : Dev nD) (t : Fin cfg1.N) (d) : (dat1 V c).before 3 t d = blk1 V c 3 t :=
  before1 V c 3 rfl (fun _ => rfl) (fun _ _ _ => rfl) (fun t => by dsimp only [dat1]) t d
theorem before1_4 (c : Dev nD) (t : Fin cfg1.N) (d) : (dat1 V c).before 4 t d = blk1 V c 4 t :=
  before1 V c 4 rfl (fun _ => rfl) (fun _ _ _ => rfl) (fun t => by dsimp only [dat1]) t d
theorem before1_5 (c : Dev nD) (t : Fin cfg1.N) (d) : (dat1 V c).before 5 t d = blk1 V c 5 t :=
  before1 V c 5 rfl (fun _ => rfl) (fun _ _ _ => rfl) (fun t => by dsimp only [dat1]) t d

/-! ## The body at a generic point -/

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The core owes nothing: into the proof data's form, -/
theorem owes_in (c : Dev nD) (k : Fin (cfg1.N + 1)) (W : Waits sig Unit) : (owes (c : Thread nD τ) 0 W : sProp 𝕄) ⊢ (dat1 V c).owesAt () k := by
  unfold Dat.owesAt Pipeline.owesWithin Dat.bound
  iintro HO; iexists W; isplitr; · ipureintro; exact fun _ _ => Or.inl trivial
  iexact HO

/-- and out of it. -/
theorem owes_out (c : Dev nD) (k : Fin (cfg1.N + 1)) : ((dat1 V c).owesAt () k : sProp 𝕄) ⊢ iprop(∃ W, owes (c : Thread nD τ) 0 W) := by
  unfold Dat.owesAt Pipeline.owesWithin
  iintro ⟨%W, -, HO⟩; iexists W; iexact HO

/-- The first tile of a half is at the multiples of four. -/
theorem cond_iff : ∀ t : Fin cfg1.N, k1_cond1 (grid1.coords t) = 1#1 ↔ t.val % 4 = 0 := by decide +kernel

/-- The first point of a half is a point at which the recurrence ran. -/
theorem pt_self (t : Fin cfg1.N) (h : t.val % 4 = 0) : pt t.val = t := by
  have : t.val < 8 := lt_of_lt_of_eq t.isLt N_1
  refine Fin.ext ?_; show 4 * (t.val / 4) % 8 = t.val; omega

/-- The half's hidden rows are the same at the next point, if that is in the half. -/
theorem hid_succ (c : Dev nD) (k : ℕ) (h : (k + 1) % 4 ≠ 0) : hid V c (k + 1) = hid V c k := by
  have e : pt (k + 1) = pt k := by
    refine Fin.ext ?_; show 4 * ((k + 1) / 4) % 8 = 4 * (k / 4) % 8; congr 2; omega
  unfold hid; rw [e]

set_option maxHeartbeats 1000000 in
/-- The body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [after1_0, after1_1, after1_2, after1_3, after1_4, after1_5, after1_6,
    show (dat1 V c).Φ t.castSucc = phi V c t.val from rfl, show (dat1 V c).Φ t.succ = phi V c (t.val + 1) from rfl]
  have hin := owes_in V c t.succ
  have hout := owes_out V c t.castSucc
  unfold res1 phi idle
  iintro ⟨⟨⟨E0, E1, E2, E3, E4, E5, E6, E7, E8, E9, E10, E11, H9, ⟨%g, %hg, H10⟩⟩, Hr, Hv⟩, Ho, ⟨%d0, H0⟩, ⟨%d1, H1⟩, ⟨%d2, H2⟩, ⟨%d3, H3⟩, ⟨%d4, H4⟩, ⟨%d5, H5⟩, ⟨%d6, H6⟩⟩
  ihave Ho := hout $$ Ho
  by_cases h : t.val % 4 = 0
  · rw [body_then _ _ _ _ _ _ _ _ _ _ _ _ _ _ _ _ _ _ _ _ ((cond_iff t).2 h), wp_bindP]
    iapply (start_wp c _ _ _ _ _ _ (blk1 V c 0 t) (blk1 V c 1 t) (blk1 V c 2 t) (blk1 V c 3 t))
    isplitl [H0]; · iexact H0
    isplitl [H1]; · iexact H1
    isplitl [H2]; · iexact H2
    isplitl [H3]; · iexact H3
    isplitl [H9]; · iexact H9
    isplitl [H10]; · iexists g; iexact H10
    isplitl [Hv]; · iexact Hv
    isplitl [Ho]; · iexact Ho
    iintro ⟨H0, H1, H2, H3, H9, H10, Hv, ⟨%W, Ho⟩⟩
    iapply (prodProg_wp c _ _ _ (blk1 V c 4 t) (blk1 V c 5 t))
    isplitl [H4]; · iexact H4
    isplitl [H5]; · iexact H5
    isplitl [H6]; · iexists _; iexact H6
    isplitl [H10]; · iexact H10
    iintro ⟨H4, H5, H6, H10⟩
    have e : tr (rows (par (blk1 V c 0 t)) (blk1 V c 2 t) (blk1 V c 3 t) (blk1 V c 1 t)) = hid V c t.val := by
      unfold hid; rw [pt_self t h]
    rw [e]
    isplitl [E0 E1 E2 E3 E4 E5 E6 E7 E8 E9 E10 E11 H9 H10 Hr Hv]
    · isplitr [Hr Hv]
      · iframe
        iexists _
        isplitr
        swap; · iexact H10
        ipureintro; intro hk; exact (hid_succ V c _ hk).symm
      isplitl [Hr]; · iexact Hr
      iexact Hv
    isplitl [Ho]; · iapply (hin W); iexact Ho
    isplitl [H0]; · iexact H0
    isplitl [H1]; · iexact H1
    isplitl [H2]; · iexact H2
    isplitl [H3]; · iexact H3
    isplitl [H4]; · iexact H4
    isplitl [H5]; · iexact H5
    iexact H6
  · rw [body_else _ _ _ _ _ _ _ _ _ _ _ _ _ _ _ _ _ _ _ _ (fun h' => h ((cond_iff t).1 h'))]
    icases Ho with ⟨%W, Ho⟩
    obtain rfl := hg h
    iapply (prodProg_wp c _ _ _ (blk1 V c 4 t) (blk1 V c 5 t))
    isplitl [H4]; · iexact H4
    isplitl [H5]; · iexact H5
    isplitl [H6]; · iexists _; iexact H6
    isplitl [H10]; · iexact H10
    iintro ⟨H4, H5, H6, H10⟩
    isplitl [E0 E1 E2 E3 E4 E5 E6 E7 E8 E9 E10 E11 H9 H10 Hr Hv]
    · isplitr [Hr Hv]
      · iframe
        iexists _
        isplitr
        swap; · iexact H10
        ipureintro; intro hk; exact (hid_succ V c _ hk).symm
      isplitl [Hr]; · iexact Hr
      iexact Hv
    isplitl [Ho]; · iapply (hin W); iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point is the body there. -/
theorem row1 (t : Fin cfg1.N) :
    defs₀ (F := F) .tc cfg1.body (cfg1.bodyArgs t (cfg1.slots t)) = bodyAt1 t := by
  unfold defs₀; rw [Defs.onTc_tc]

/-- The pipeline's obligation of the second call's body, at every point. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Hand

end
-- ==== Proof.KernelIdeal.Run.lean ====
/- The program's run: the two calls' pipelines as segments between the host's operations, the contents every buffer
   ends with, and that every semaphore ends at zero. Generic in the floats. -/
module

public import proofs.«01_k».proof.Proof.KernelIdeal.Mlp
public import proofs.«01_k».proof.Proof.KernelIdeal.Call
public import proofs.«01_k».proof.Proof.Gen.KernelIdeal.Regions
public import Idealize.ShloMosaic.Lib.Pipeline.RegionsLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-! ## The contents of the buffers, boundary by boundary -/

/-- A valuation read at the core's own references. -/
abbrev onRefs (X : Dev nD → Valuation τ sig (Elt F)) : (c : Dev nD) → (b : Ref sig .tc) → Buf (Elt F) ((c : Thread nD τ).loc b) := fun c b => X c b

/-- At launch, -/
abbrev X0 (c : Dev nD) : Valuation τ sig (Elt F) := fun b => m (c, b)
/-- before the first call, -/
abbrev X1 (c : Dev nD) : Valuation τ sig (Elt F) := StableHlo.after hostOps0 (X0 m c)
/-- after it, -/
def X2 (c : Dev nD) : Valuation τ sig (Elt F) := Function.update (X1 m c) main_v8 ((dat0 (onRefs (X1 m)) c).arrAt 9 cfg0.N)
/-- before the second call, -/
abbrev X3 (c : Dev nD) : Valuation τ sig (Elt F) := StableHlo.after hostOps1 (X2 m c)
/-- and after it. -/
def X4 (c : Dev nD) : Valuation τ sig (Elt F) := Function.update (X3 m c) main_v21 ((dat1 (onRefs (X3 m)) c).arrAt 6 cfg1.N)

/-- Every window of the first call but the last is an input, of another array than the result's, -/
theorem inputs0 : ∀ w : Fin cfg0.W, w ≠ 9 → (cfg0.win w).isOut = false ∧ Proc.devRef (τ := τ) .tc (Pipeline.arrRef spec0 w) ≠ Proc.devRef .tc main_v8 := by decide
/-- and so is every window of the second call but the last. -/
theorem inputs1 : ∀ w : Fin cfg1.W, w ≠ 6 → (cfg1.win w).isOut = false ∧ Proc.devRef (τ := τ) .tc (Pipeline.arrRef spec1 w) ≠ Proc.devRef .tc main_v21 := by decide

/-- Every array of the first call ends at the contents named. -/
theorem arr0 (c : Dev nD) (w : Fin cfg0.W) : (dat0 (onRefs (X1 m)) c).arrAt w cfg0.N = onRefs (X2 m) c (Pipeline.arrRef spec0 w) := by
  by_cases h : w = 9
  · subst h; exact (Function.update_self (f := X1 m c) ..).symm
  · obtain ⟨h1, h2⟩ := inputs0 w h
    exact (((dat0 (onRefs (X1 m)) c).arrAt_in w h1 _).trans (A_eq0 _ c w)).trans (Function.update_of_ne (f := X1 m c) h2 _).symm
/-- Every other buffer is left alone by it. -/
theorem rest0 (c : Dev nD) (b : Ref sig .tc) (hb : b ∉ Finset.univ.image (Pipeline.arrRef spec0)) : onRefs (X2 m) c b = onRefs (X1 m) c b :=
  Function.update_of_ne (f := X1 m c) (fun e => hb (by
    have e' : b = main_v8 := Proc.devRef_injective _ e
    rw [e']; decide)) _
/-- Every array of the second call ends at the contents named. -/
theorem arr1 (c : Dev nD) (w : Fin cfg1.W) : (dat1 (onRefs (X3 m)) c).arrAt w cfg1.N = onRefs (X4 m) c (Pipeline.arrRef spec1 w) := by
  by_cases h : w = 6
  · subst h; exact (Function.update_self (f := X3 m c) ..).symm
  · obtain ⟨h1, h2⟩ := inputs1 w h
    exact (((dat1 (onRefs (X3 m)) c).arrAt_in w h1 _).trans (A_eq1 _ c w)).trans (Function.update_of_ne (f := X3 m c) h2 _).symm
/-- Every other buffer is left alone by it. -/
theorem rest1 (c : Dev nD) (b : Ref sig .tc) (hb : b ∉ Finset.univ.image (Pipeline.arrRef spec1)) : onRefs (X4 m) c b = onRefs (X3 m) c b :=
  Function.update_of_ne (f := X3 m c) (fun e => hb (by
    have e' : b = main_v21 := Proc.devRef_injective _ e
    rw [e']; decide)) _

/-- A buffer that neither a host operation nor a call writes ends as launched. -/
theorem kept (c : Dev nD) (b : Ref sig .tc) (h : b ∉ hostOps0_W ++ main_v8 :: hostOps1_W ++ [main_v21]) : X4 m c b = m ((c : Thread nD τ).loc b) := by
  simp only [List.mem_append, List.mem_cons, List.not_mem_nil, or_false, not_or] at h
  have n8 : Proc.devRef (τ := τ) .tc b ≠ Proc.devRef .tc main_v8 := fun e => h.1.2.1 (Proc.devRef_injective _ e)
  have n21 : Proc.devRef (τ := τ) .tc b ≠ Proc.devRef .tc main_v21 := fun e => h.2 (Proc.devRef_injective _ e)
  refine (Function.update_of_ne (f := X3 m c) n21 _).trans ?_
  refine (StableHlo.after_of_writes_sub hostOps1 _ hostOps1_writes (by simp only [List.mem_cons, List.not_mem_nil, or_false, not_or]; exact h.1.2.2)).trans ?_
  refine (Function.update_of_ne (f := X1 m c) n8 _).trans ?_
  exact StableHlo.after_of_writes_sub hostOps0 _ hostOps0_writes (by simp only [List.mem_cons, List.not_mem_nil, or_false, not_or]; exact h.1.1)

/-! ## The segments -/

/-- The two pipelines' data. -/
def dats : (p : Fin 2) → (c : Dev nD) → Dat τ (Elt F) Unit ℕ (Pipeline.UD sig nD τ) ℕ (Pipeline.pin (pcfgs (F := F)) adm p) c
  | ⟨0, _⟩ => fun c => dat0 (onRefs (X1 m)) c
  | ⟨1, _⟩ => fun c => dat1 (onRefs (X3 m)) c

/-- No level is assigned. -/
abbrev lev : GSem nD τ sig → Finset Unit := fun _ => ∅
/-- All semaphores are at one level. -/
abbrev lvl : GSem nD τ sig → Unit → ℕ := fun _ _ => 0

/-- Beside the buffers: the generator's register and the core owing nothing. -/
abbrev beside (c : Dev nD) : sProp 𝕄 := iprop((∃ r, prngReg c r) ∗ ∃ W, owes (c : Thread nD τ) (0 : CellTallies nD τ sig Unit) W)

/-- The unscoped buffers at a valuation. -/
abbrev holds (X : Dev nD → Valuation τ sig (Elt F)) (c : Dev nD) : sProp 𝕄 := StableHlo.held (c : Thread nD τ) (Pipeline.ucRefs τ sig) (X c)

/-- A stretch of host operations. -/
abbrev host (ops : List (HloOp τ sig (Elt F))) (hsub : ops.Forall fun op => op.bufs ⊆ StableHlo.tcRefs τ sig)
    (hfresh : ops.Forall fun op => op.fresh = ∅) (X : Dev nD → Valuation τ sig (Elt F)) :
    Pipeline.HostSeg (Name := ℕ) (U := Pipeline.UD sig nD τ) (pcfgs (F := F)) defs₀ Variants.none lev lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) X beside

set_option backward.isDefEq.respectTransparency.types false in
/-- The first call as a segment. -/
def call0 : Pipeline.RegionSeg (pcfgs (F := F)) adm (dats m) () defs₀ Variants.none lev lvl 0 where
  win := launch0.win.to₀
  block_pos := launch0.block_pos
  stage_whole := launch0.stage_whole
  K := PEmpty
  osem k := k.elim
  ho := Pipeline.OwnSemFacts.none _
  hbody c := (obligation0 (onRefs (X1 m)) c).loose
  hwaits := Pipeline.hwaits_of_owed_zero _ _ _ _ lev lvl 0 fun _ _ => rfl
  pre c := iprop(holds (X1 m) c ∗ beside c)
  post c := iprop(holds (X2 m) c ∗ beside c)
  X c := iprop(∃ r, prngReg c r)
  Y c := iprop(∃ r, prngReg c r)
  Z c := Pipeline.unscopedRest (Ix := Unit) (Name := ℕ) (U := Pipeline.UD sig nD τ) (Lvl := ℕ) spec0 c (onRefs (X1 m) c)
  hentry c := by
    rw [Pipeline.ownSems0_none]
    have hs := Pipeline.arrays_of_unscopedBufs (p := 0) (pcfgs (F := F)) adm (dats m) launch0.win launch0.arr_whole c
      ((dats m 0 c).share_full fun _ => rfl) (onRefs (X1 m) c) (A_eq0 (onRefs (X1 m)) c)
    rw [Pipeline.unscopedBufs_held] at hs
    iintro ⟨⟨Hb, Hp, HO⟩, -, -⟩
    ihave H := hs $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := Pipeline.UD sig nD τ) (Lvl := ℕ)
      launch0.win launch0.arr_whole c (dats m) ((dats m 0 c).share_full fun _ => rfl)
      (onRefs (X1 m) c) (onRefs (X2 m) c) ((dats m 0 c).arrAt · cfg0.N) (arr0 m c) (rest0 m c)
    rw [Pipeline.unscopedBufs_held] at hj
    iintro ⟨Ha, HO, HY, Hz⟩
    imodintro
    isplitl [Ha Hz]
    · iapply hj; isplitl [Ha] <;> iassumption
    isplitl [HY]; · iexact HY
    unfold Pipeline.Dat.owesAt Pipeline.owesWithin
    icases HO with ⟨%W, -, HO⟩; iexists W; iexact HO

/-- The second call's own semaphore: the copies'. -/
abbrev copySem : Fin 1 → SemLoc sig := fun _ => SemLoc.dma cc1_scratch2.sem

/-- It is a semaphore of the second call alone. -/
theorem copySem_facts : Pipeline.OwnSemFacts spec1 copySem := by decide

/-- That it is at zero, said of the call's own semaphores, is said of this one. -/
theorem copySem_zero (c : Dev nD) :
    (Pipeline.ownSems0 (Ix := Unit) (Name := ℕ) (U := Pipeline.UD sig nD τ) (Lvl := ℕ) (Val := Elt F) (τ := τ) copySem c : sProp 𝕄)
      = semVal ((c : Thread nD τ), SemLoc.dma cc1_scratch2.sem) 0 := by
  rw [Pipeline.ownSems0_eq_of_list c copySem [0] (by decide) (by decide)]; rfl

/-- Before the first point: the scratch buffers at whatever they hold. -/
theorem phi_first (V : (c : Dev nD) → (b : Ref sig .tc) → Buf (Elt F) ((c : Thread nD τ).loc b)) (c : Dev nD) :
    iprop((∃ r, prngReg c r) ∗ semVal ((c : Thread nD τ), SemLoc.dma cc1_scratch2.sem) 0 ∗ Pipeline.scopedRest spec1 c) ⊢ (phi V c 0 : sProp 𝕄) := by
  rw [scopedRest1_eq]
  unfold phi idle
  iintro ⟨Hp, Hv, E0, E1, E2, E3, E4, E5, E6, E7, E8, E9, E10, E11, ⟨%f, H9⟩, ⟨%g, H10⟩⟩
  isplitr [Hp Hv]
  · iframe
    isplitl [H9]; · iexists f; iexact H9
    iexists g
    isplitr; · ipureintro; intro h; exact absurd rfl h
    iexact H10
  isplitl [Hp]; · iexact Hp
  iexact Hv

/-- After the last point they are given back. -/
theorem phi_last (V : (c : Dev nD) → (b : Ref sig .tc) → Buf (Elt F) ((c : Thread nD τ).loc b)) (c : Dev nD) (k : ℕ) :
    (phi V c k : sProp 𝕄) ⊢ iprop((∃ r, prngReg c r) ∗ semVal ((c : Thread nD τ), SemLoc.dma cc1_scratch2.sem) 0 ∗ Pipeline.scopedRest spec1 c) := by
  rw [scopedRest1_eq]
  unfold phi idle
  iintro ⟨⟨E0, E1, E2, E3, E4, E5, E6, E7, E8, E9, E10, E11, ⟨%f, H9⟩, ⟨%g, -, H10⟩⟩, Hp, Hv⟩
  isplitl [Hp]; · iexact Hp
  isplitl [Hv]; · iexact Hv
  iframe
  isplitl [H9]; · iexists f; iexact H9
  iexists g
  iexact H10

/-- The state the program ends in, but for owing nothing. -/
abbrev ended (c : Dev nD) : sProp 𝕄 := iprop(holds (X4 m) c ∗ ∃ r, prngReg c r)

set_option backward.isDefEq.respectTransparency.types false in
/-- The second call as a segment. -/
def call1 : Pipeline.RegionSeg (pcfgs (F := F)) adm (dats m) () defs₀ Variants.none lev lvl 1 where
  win := launch1.win.to₀
  block_pos := launch1.block_pos
  stage_whole := launch1.stage_whole
  K := Fin 1
  osem := copySem
  ho := copySem_facts
  hbody c := (obligation1 (onRefs (X3 m)) c).loose
  hwaits := Pipeline.hwaits_of_owed_zero _ _ _ _ lev lvl 1 fun _ _ => rfl
  pre c := iprop(holds (X3 m) c ∗ beside c)
  post c := iprop(ended m c ∗ ∃ W, owes (c : Thread nD τ) (0 : CellTallies nD τ sig Unit) W)
  X c := iprop((∃ r, prngReg c r) ∗ semVal ((c : Thread nD τ), SemLoc.dma cc1_scratch2.sem) 0)
  Y c := iprop(∃ r, prngReg c r)
  Z c := Pipeline.unscopedRest (Ix := Unit) (Name := ℕ) (U := Pipeline.UD sig nD τ) (Lvl := ℕ) spec1 c (onRefs (X3 m) c)
  hentry c := by
    rw [copySem_zero]
    have hs := Pipeline.arrays_of_unscopedBufs (p := 1) (pcfgs (F := F)) adm (dats m) launch1.win launch1.arr_whole c
      ((dats m 1 c).share_full fun _ => rfl) (onRefs (X3 m) c) (A_eq1 (onRefs (X3 m)) c)
    rw [Pipeline.unscopedBufs_held] at hs
    iintro ⟨⟨Hb, Hp, HO⟩, Hv, -⟩
    ihave H := hs $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hv]
    · isplitl [Hp]; · iexact Hp
      iexact Hv
    iexact Hz
  hin c := by
    rw [show (dats m 1 c).Φ 0 = phi (onRefs (X3 m)) c 0 from rfl]
    iintro ⟨⟨Hp, Hv⟩, -, Hr⟩
    iapply (phi_first (onRefs (X3 m)) c)
    isplitl [Hp]; · iexact Hp
    isplitl [Hv]; · iexact Hv
    iexact Hr
  hout c := by
    rw [copySem_zero, show (dats m 1 c).Φ (Fin.last _) = phi (onRefs (X3 m)) c cfg1.N from rfl]
    exact phi_last (onRefs (X3 m)) c _
  hexit c := by
    have hj := Pipeline.unscopedBufs_of_arrays (p := 1) (pcfgs (F := F)) adm (Ix := Unit) (Name := ℕ) (U := Pipeline.UD sig nD τ) (Lvl := ℕ)
      launch1.win launch1.arr_whole c (dats m) ((dats m 1 c).share_full fun _ => rfl)
      (onRefs (X3 m) c) (onRefs (X4 m) c) ((dats m 1 c).arrAt · cfg1.N) (arr1 m c) (rest1 m c)
    rw [Pipeline.unscopedBufs_held] at hj
    iintro ⟨Ha, HO, HY, Hz⟩
    imodintro
    isplitl [Ha Hz HY]
    · isplitl [Ha Hz]
      · iapply hj; isplitl [Ha] <;> iassumption
      iexact HY
    unfold Pipeline.Dat.owesAt Pipeline.owesWithin
    icases HO with ⟨%W, -, HO⟩; iexists W; iexact HO

/-! ## The run -/

/-- The program's four segments, in order. -/
abbrev parts : List (Pipeline.Seg (pcfgs (F := F)) adm (dats m) () defs₀ Variants.none lev lvl) :=
  [ .host (host hostOps0 hostOps0_sub hostOps0_fresh (X0 m)),
    .region (call0 m),
    .host (host hostOps1 hostOps1_sub hostOps1_fresh (X2 m)),
    .region (call1 m) ]

/-- The program is its segments, one after the other. -/
theorem main_parts (c : Dev nD) : main (F := F) c = Pipeline.Seg.run (parts m) := (main_chain c).trans (by chain_rfl)

/-- A buffer that is not scoped is among those the program holds throughout. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every run of the program ends, every buffer that is not scoped at the contents named and every semaphore at zero. -/
theorem run (ρ : Dev nD → PrngReg) : θ_run defs (onTc (τ := τ) (main (F := F))) ⟨m, fun _ => 0, ρ⟩ (fun r =>
    (∀ c : Dev nD, ∀ b ∈ Pipeline.ucRefs τ sig, r.2.mem (((c : Thread nD τ)).1, b) = X4 m c b) ∧ r.2.sem = fun _ => 0) :=
  Pipeline.θ_run_regions_kit_sems (pcfgs (F := F)) adm (dats m) () cellOf_inj embL defs₀ Variants.none lev lvl m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(holds (X0 m) c ∗ beside c)) (Tₙ := ended m)
    (hch := ⟨fun _ => .rfl, fun _ => .rfl, fun _ => .rfl, fun _ => .rfl, fun _ => .rfl⟩)
    (hinit := by
      refine Pipeline.initEach lev lvl fun c => ?_
      rw [show unscopedBufs c (fun b => m ((c : Thread nD τ).loc b)) = holds (X0 m) c from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold holds StableHlo.held
      imodintro
      iapply (pointsTo_read_all (Pipeline.ucRefs τ sig) (fun b => (((c : Thread nD τ)).1, b)) (X4 m c) s')
      isplitl [Hh] <;> iassumption)
    (hQ := fun s h hz => ⟨h, funext fun g => hz g (.inr (regions_no_unscoped g.2))⟩)

end Cert.KernelIdeal.Hand

end
-- ==== Proof.KernelIdeal.Frame.lean ====
/- Every argument ends as launched. -/
module

public import proofs.«01_k».proof.Proof.KernelIdeal.Run

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]

/-- The arguments. -/
abbrev args : List (Ref sig .tc) :=
  [main_arg0, main_arg1, main_arg2, main_arg3, main_arg4, main_arg5, main_arg6, main_arg7, main_arg8, main_arg9, main_arg10, main_arg11,
    main_arg12, main_arg13, main_arg14, main_arg15, main_arg16]

/-- The arguments are buffers of the whole program. -/
theorem args_unscoped : ∀ b ∈ args, ¬ (Proc.devRef .tc b : DevRef τ sig).isScoped := by decide

/-- Neither the host code nor a call writes an argument. -/
theorem args_unwritten : ∀ b ∈ args, b ∉ hostOps0_W ++ main_v8 :: hostOps1_W ++ [main_v21] := by decide

/-- Every run ends with the arguments as launched, the result at the contents named, and every semaphore at zero. -/
theorem run_args (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v21) = X4 m c main_v21
        ∧ ∀ b ∈ args, r.2.mem ((c.tc : Thread nD τ).loc b) = m ((c.tc : Thread nD τ).loc b))
      ∧ r.2.sem = fun _ => 0) :=
  (θ_run defs _ _).mono (fun r h =>
    ⟨fun c => ⟨h.1 c _ (mem_held main_v21 (by decide)), fun b hb => (h.1 c _ (mem_held b (args_unscoped b hb))).trans (kept m c b (args_unwritten b hb))⟩, h.2⟩) (run m ρ)

end Cert.KernelIdeal.Hand

end
-- ==== Proof.Claims.lean ====
/- The claims that need no value: the frames of the three programs and the naming of the two constants. -/
module

public import proofs.«01_k».proof.Defs
public import proofs.«01_k».proof.Proof.Kernel.Frame
public import proofs.«01_k».proof.Proof.KernelIdeal.Frame
public import proofs.«01_k».proof.Proof.Gen.ReferenceIdeal.Run
public import Idealize.ShloMosaic.Lib.Quiescent

@[expose] public section

noncomputable section

namespace Cert.Proof

open Idealize.ShloMosaic Idealize.ShloMosaic.TcCoe
open Idealize.SL.Sem

/-- The kernel's frame, in its own arithmetic. -/
theorem frame_kernel : Cert.quiescent_Kernel := fun m ρ _ =>
  (θ_run Cert.Kernel.defs _ _).mono (fun r h => ⟨fun c => by
    have k := (h.1 c).2
    exact ⟨k _ (by decide), k _ (by decide), k _ (by decide), k _ (by decide), k _ (by decide), k _ (by decide), k _ (by decide), k _ (by decide),
      k _ (by decide), k _ (by decide), k _ (by decide), k _ (by decide), k _ (by decide), k _ (by decide), k _ (by decide), k _ (by decide), k _ (by decide)⟩, h.2⟩)
    (Cert.Kernel.Hand.run_args m ρ)

/-- The kernel's frame over the reals. -/
theorem frame_ideal : Cert.quiescent_KernelIdeal := fun m ρ _ =>
  (θ_run Cert.KernelIdeal.defs _ _).mono (fun r h => ⟨fun c => by
    have k := (h.1 c).2
    exact ⟨k _ (by decide), k _ (by decide), k _ (by decide), k _ (by decide), k _ (by decide), k _ (by decide), k _ (by decide), k _ (by decide),
      k _ (by decide), k _ (by decide), k _ (by decide), k _ (by decide), k _ (by decide), k _ (by decide), k _ (by decide), k _ (by decide), k _ (by decide)⟩, h.2⟩)
    (Cert.KernelIdeal.Hand.run_args m ρ)

/-- The reference's frame over the reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants have the values named. -/
theorem preserves : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "neg_two_log2e" .f32 0xC038AA3B#32 (((-2) * (Real.log 2)⁻¹ : ℝ) : EReal) rfl⟩

end Cert.Proof

end
-- ==== Proof.Value.Cell.lean ====
/- One step of the recurrence over the reals, and the kernel's step at one element as that step. -/
module

public import proofs.«01_k».proof.Proof.KernelIdeal.Rec
public import Idealize.ShloMosaic.Lib.Pointwise
public import Mathlib.Analysis.SpecialFunctions.Pow.Real
public import Mathlib.Analysis.SpecialFunctions.Trigonometric.DerivHyp

@[expose] public section

set_option maxRecDepth 16384

noncomputable section

namespace Cert.Value

open Idealize.ShloMosaic

/-! ## The recurrence over the reals -/

/-- The logistic function. -/
def sg (x : ℝ) : ℝ := 1 / (1 + Real.exp (-x))

/-- The twelve numbers of the recurrence: for each gate the weight of the input, the weight of the hidden state and the bias. -/
structure Wts where
  (wi wh b : Fin 4 → ℝ)

/-- The pre-activation of gate `k` at input `x` and hidden state `h`. -/
def gate (w : Wts) (k : Fin 4) (x h : ℝ) : ℝ := x * w.wi k + h * w.wh k + w.b k

/-- The cell state after one step. -/
def nextC (w : Wts) (x h c : ℝ) : ℝ := sg (gate w 1 x h) * c + sg (gate w 0 x h) * Real.tanh (gate w 2 x h)

/-- The hidden state after one step. -/
def nextH (w : Wts) (x h c : ℝ) : ℝ := sg (gate w 3 x h) * Real.tanh (nextC w x h c)

/-- The hidden state and the cell state after step `n`: the first step's input is `z`, a later step's is the hidden state. -/
def st (w : Wts) (z h c : ℝ) : ℕ → ℝ × ℝ
  | 0 => (nextH w z h c, nextC w z h c)
  | n + 1 => (nextH w (st w z h c n).1 (st w z h c n).1 (st w z h c n).2, nextC w (st w z h c n).1 (st w z h c n).1 (st w z h c n).2)

/-! ## The perceptron -/

/-- The leaky rectifier over the extended reals; its slope is the float nearest 0.2. -/
def leak (v : EReal) : EReal := if 0 < v then v else Ideal.ofBits .f32 0x3E4CCCCD#32 * v

/-- One output of a layer: the rectified sum of the products, plus the bias. -/
def dense {n : ℕ} (x w : Fin n → EReal) (b : EReal) : EReal := leak (∑ k, x k * w k + b)

/-- The perceptron of four layers, on one batch row `x`. -/
def mlp (x : Fin 8 → EReal) (w1 : Fin 64 → Fin 8 → EReal) (b1 : Fin 64 → EReal) (w2 : Fin 128 → Fin 64 → EReal) (b2 : Fin 128 → EReal)
    (w3 : Fin 4 → Fin 128 → EReal) (b3 : Fin 4 → EReal) (w4 : Fin 4 → EReal) (b4 : EReal) : EReal :=
  dense (fun k => dense (fun j => dense (fun i => dense x (w1 i) (b1 i)) (w2 j) (b2 j)) (w3 k) (b3 k)) w4 b4

/-- A dense layer depends on its row, its weights and its bias only. -/
theorem dense_congr {n : ℕ} {x x' w w' : Fin n → EReal} {b b' : EReal} (hx : ∀ i, x i = x' i) (hw : ∀ i, w i = w' i) (hb : b = b') : dense x w b = dense x' w' b' := by
  rw [funext hx, funext hw, hb]

/-- The perceptron depends on its row, its weights and its biases only. -/
theorem mlp_congr {x x' : Fin 8 → EReal} {w1 w1' : Fin 64 → Fin 8 → EReal} {b1 b1' : Fin 64 → EReal} {w2 w2' : Fin 128 → Fin 64 → EReal} {b2 b2' : Fin 128 → EReal}
    {w3 w3' : Fin 4 → Fin 128 → EReal} {b3 b3' : Fin 4 → EReal} {w4 w4' : Fin 4 → EReal} {b4 b4' : EReal} (hx : ∀ k, x k = x' k) (h1 : ∀ j k, w1 j k = w1' j k)
    (g1 : ∀ j, b1 j = b1' j) (h2 : ∀ j k, w2 j k = w2' j k) (g2 : ∀ j, b2 j = b2' j) (h3 : ∀ j k, w3 j k = w3' j k) (g3 : ∀ j, b3 j = b3' j) (h4 : ∀ k, w4 k = w4' k)
    (g4 : b4 = b4') : mlp x w1 b1 w2 b2 w3 b3 w4 b4 = mlp x' w1' b1' w2' b2' w3' b3' w4' b4' :=
  dense_congr (fun k => dense_congr (fun j => dense_congr (fun i => dense_congr hx (h1 i) (g1 i)) (h2 j) (g2 j)) (h3 k) (g3 k)) h4 g4

/-- The perceptron on row `r` of the batch, from the arrays of the problem. -/
def mlpRow (X : FVec Ideal ⟨2, ![8192, 8]⟩ .f32) (W1 : FVec Ideal ⟨2, ![64, 8]⟩ .f32) (b1 : FVec Ideal ⟨1, ![64]⟩ .f32) (W2 : FVec Ideal ⟨2, ![128, 64]⟩ .f32)
    (b2 : FVec Ideal ⟨1, ![128]⟩ .f32) (W3 : FVec Ideal ⟨2, ![4, 128]⟩ .f32) (b3 : FVec Ideal ⟨1, ![4]⟩ .f32) (W4 : FVec Ideal ⟨2, ![1, 4]⟩ .f32)
    (b4 : FVec Ideal ⟨1, ![1]⟩ .f32) (r : Fin 8192) : EReal :=
  mlp (fun i => X (ix2 r i)) (fun j i => W1 (ix2 j i)) (fun j => b1 (ix1 j)) (fun j i => W2 (ix2 j i)) (fun j => b2 (ix1 j))
    (fun j i => W3 (ix2 j i)) (fun j => b3 (ix1 j)) (fun i => W4 (ix2 0 i)) (b4 (ix1 0))

/-- An extended real that is a real. -/
def IsReal (v : EReal) : Prop := ∃ r : ℝ, v = (r : EReal)

/-- A sum of two reals is a real, -/
theorem IsReal.add {a b : EReal} (ha : IsReal a) (hb : IsReal b) : IsReal (a + b) := by
  obtain ⟨x, rfl⟩ := ha; obtain ⟨y, rfl⟩ := hb; exact ⟨x + y, (EReal.coe_add x y).symm⟩

/-- a product of two reals is one, -/
theorem IsReal.mul {a b : EReal} (ha : IsReal a) (hb : IsReal b) : IsReal (a * b) := by
  obtain ⟨x, rfl⟩ := ha; obtain ⟨y, rfl⟩ := hb; exact ⟨x * y, (EReal.coe_mul x y).symm⟩

/-- so is a finite sum of reals, -/
theorem IsReal.sum {n : ℕ} {f : Fin n → EReal} (h : ∀ k, IsReal (f k)) : IsReal (∑ k, f k) := by
  classical
  refine Finset.induction_on (Finset.univ : Finset (Fin n)) ⟨0, by simp⟩ fun a s ha ih => ?_
  rw [Finset.sum_insert ha]; exact (h a).add ih

/-- and so is the leaky unit of a real. -/
theorem IsReal.leak {v : EReal} (h : IsReal v) : IsReal (leak v) := by
  unfold Cert.Value.leak
  split
  · exact h
  · refine IsReal.mul ?_ h
    exact ⟨_, rfl⟩

/-- A layer's output is real when its inputs, weights and bias are. -/
theorem IsReal.dense {n : ℕ} {x w : Fin n → EReal} {b : EReal} (hx : ∀ k, IsReal (x k)) (hw : ∀ k, IsReal (w k)) (hb : IsReal b) : IsReal (dense x w b) :=
  ((IsReal.sum fun k => (hx k).mul (hw k)).add hb).leak

/-! ## The activations at a real argument -/

/-- A quotient of reals with a positive denominator. -/
theorem div_coe (x y : ℝ) (hy : 0 < y) : Ideal.div (x : EReal) (y : EReal) = ((x / y : ℝ) : EReal) := by
  unfold Ideal.div
  rw [if_neg (by exact_mod_cast hy.ne'), div_eq_mul_inv, EReal.coe_mul, EReal.coe_inv]

/-- Two to the power of `v` times `-1 / log 2` is `exp (-v)`. -/
theorem rpow_neg_log (v : ℝ) : Real.rpow 2 (v * -((Real.log 2)⁻¹)) = Real.exp (-v) := by
  have h : Real.log 2 ≠ 0 := (Real.log_pos (by norm_num)).ne'
  rw [Real.rpow_eq_pow, Real.rpow_def_of_pos (by norm_num)]
  congr 1; field_simp

/-- Two to the power of `v` times `-2 / log 2` is `exp (-2 v)`. -/
theorem rpow_neg_two_log (v : ℝ) : Real.rpow 2 (v * (-2 * (Real.log 2)⁻¹)) = Real.exp (-(2 * v)) := by
  have h : Real.log 2 ≠ 0 := (Real.log_pos (by norm_num)).ne'
  rw [Real.rpow_eq_pow, Real.rpow_def_of_pos (by norm_num)]
  congr 1; field_simp

/-- The hyperbolic tangent by one exponential. -/
theorem tanh_exp (v : ℝ) : (1 - Real.exp (-(2 * v))) / (1 + Real.exp (-(2 * v))) = Real.tanh v := by
  rw [Real.tanh_eq_sinh_div_cosh, Real.sinh_eq, Real.cosh_eq, show -(2 * v) = -v + -v by ring, Real.exp_add]
  have h1 : Real.exp v * Real.exp (-v) = 1 := by rw [← Real.exp_add]; simp
  have h2 := Real.exp_pos v
  have h3 := Real.exp_pos (-v)
  rw [div_eq_div_iff (by positivity) (by positivity)]
  linear_combination (-Real.exp (-v)) * h1

/-- The kernel's logistic function, at a real. -/
theorem sg_kernel (v : ℝ) :
    Ideal.div 1 (1 + FloatOps.exp2 (F := Ideal) (φ := .f32) ((v : EReal) * Named.named (F := Ideal) (φ := .f32) Cert.KernelIdeal.κ "neg_log2e" 0xBFB8AA3B#32)) = ((sg v : ℝ) : EReal) := by
  have e : FloatOps.exp2 (F := Ideal) (φ := .f32) ((v : EReal) * Named.named (F := Ideal) (φ := .f32) Cert.KernelIdeal.κ "neg_log2e" 0xBFB8AA3B#32)
      = ((Real.exp (-v) : ℝ) : EReal) := by
    show Ideal.exp2 ((v : EReal) * ((-((Real.log 2)⁻¹) : ℝ) : EReal)) = _
    rw [← EReal.coe_mul, Ideal.exp2_coe, rpow_neg_log]
  rw [e, ← EReal.coe_one, ← EReal.coe_add]
  exact div_coe 1 _ (by positivity)

/-- The kernel's hyperbolic tangent, at a real. -/
theorem tanh_kernel (v : ℝ) :
    Ideal.div (1 - FloatOps.exp2 (F := Ideal) (φ := .f32) ((v : EReal) * Named.named (F := Ideal) (φ := .f32) Cert.KernelIdeal.κ "neg_two_log2e" 0xC038AA3B#32))
      (1 + FloatOps.exp2 (F := Ideal) (φ := .f32) ((v : EReal) * Named.named (F := Ideal) (φ := .f32) Cert.KernelIdeal.κ "neg_two_log2e" 0xC038AA3B#32)) = ((Real.tanh v : ℝ) : EReal) := by
  have e : FloatOps.exp2 (F := Ideal) (φ := .f32) ((v : EReal) * Named.named (F := Ideal) (φ := .f32) Cert.KernelIdeal.κ "neg_two_log2e" 0xC038AA3B#32)
      = ((Real.exp (-(2 * v)) : ℝ) : EReal) := by
    show Ideal.exp2 ((v : EReal) * (((-2) * (Real.log 2)⁻¹ : ℝ) : EReal)) = _
    rw [← EReal.coe_mul, Ideal.exp2_coe, rpow_neg_two_log]
  rw [e, ← EReal.coe_one, ← EReal.coe_add, ← EReal.coe_sub, ← tanh_exp]
  exact div_coe _ _ (by positivity)

/-- The reference's logistic function, at a real. -/
theorem sg_reference (v : ℝ) : Ideal.div 1 (1 + Ideal.exp (-(v : EReal))) = ((sg v : ℝ) : EReal) := by
  rw [← EReal.coe_neg, Ideal.exp_coe, ← EReal.coe_one, ← EReal.coe_add]
  exact div_coe 1 _ (by positivity)

end Cert.Value

namespace Cert.KernelIdeal.Value

open Cert.KernelIdeal Cert.KernelIdeal.Gen Cert.KernelIdeal.Hand Cert.Value
open Idealize.ShloMosaic

/-! ## The kernel's step -/

/-- The kernel's twelve scalars, when they are real. -/
def parR (w : Wts) : Par Ideal :=
  ⟨(w.wi 0 : EReal), (w.wi 1 : EReal), (w.wi 2 : EReal), (w.wi 3 : EReal), (w.wh 0 : EReal), (w.wh 1 : EReal), (w.wh 2 : EReal), (w.wh 3 : EReal),
    (w.b 0 : EReal), (w.b 1 : EReal), (w.b 2 : EReal), (w.b 3 : EReal)⟩

/-- A gate of a later step: the weights of input and hidden state are added first. -/
theorem gate_later (w : Wts) (k : Fin 4) (h : ℝ) :
    (h : EReal) * ((w.wi k : EReal) + (w.wh k : EReal)) + (w.b k : EReal) = ((gate w k h h : ℝ) : EReal) := by
  rw [← EReal.coe_add, ← EReal.coe_mul, ← EReal.coe_add, gate, mul_add]

/-- A gate of the first step. -/
theorem gate_first (w : Wts) (k : Fin 4) (x h : ℝ) :
    (x : EReal) * (w.wi k : EReal) + (h : EReal) * (w.wh k : EReal) + (w.b k : EReal) = ((gate w k x h : ℝ) : EReal) := by
  rw [← EReal.coe_mul, ← EReal.coe_mul, ← EReal.coe_add, ← EReal.coe_add, gate]

/-- The cell state of a later step at one element. -/
theorem cellC_apply (w : Wts) (hc : HC Ideal) (a : Fin 32) (b : Fin 128) (h c : ℝ) (eh : hc.1 (ix2 a b) = (h : EReal)) (ec : hc.2 (ix2 a b) = (c : EReal)) :
    cellC (parR w) hc (ix2 a b) = ((nextC w h h c : ℝ) : EReal) := by
  unfold cellC
  pointwise [k1_pay2, k1_pay23, k1_pay24, k1_pay25]
  rw [eh, ec]
  dsimp only [parR]
  rw [gate_later, gate_later, gate_later, sg_kernel, sg_kernel, tanh_kernel, ← EReal.coe_mul, ← EReal.coe_mul, ← EReal.coe_add]
  rfl

/-- The hidden state of a later step at one element. -/
theorem cellH_apply (w : Wts) (hc : HC Ideal) (a : Fin 32) (b : Fin 128) (h c : ℝ) (eh : hc.1 (ix2 a b) = (h : EReal)) (ec : hc.2 (ix2 a b) = (c : EReal)) :
    cellH (parR w) hc (ix2 a b) = ((nextH w h h c : ℝ) : EReal) := by
  unfold cellH
  pointwise [k1_pay27, k1_pay3, k1_pay4, k1_pay26]
  rw [cellC_apply w hc a b h c eh ec, eh]
  dsimp only [parR]
  rw [gate_later, sg_kernel, tanh_kernel, ← EReal.coe_mul]
  rfl

/-- The cell state of the first step at one element. -/
theorem firstC_apply (w : Wts) (h0 c0 z : FVec Ideal S32x128 .f32) (a : Fin 32) (b : Fin 128) (x h c : ℝ) (ex : z (ix2 a b) = (x : EReal))
    (eh : h0 (ix2 a b) = (h : EReal)) (ec : c0 (ix2 a b) = (c : EReal)) :
    firstC (parR w) h0 c0 z (ix2 a b) = ((nextC w x h c : ℝ) : EReal) := by
  unfold firstC
  pointwise [k1_pay19, k1_pay17, k1_pay18, k1_pay14, k1_pay15, k1_pay16]
  rw [ex, eh, ec]
  dsimp only [parR]
  rw [gate_first, gate_first, gate_first, sg_kernel, sg_kernel, tanh_kernel, ← EReal.coe_mul, ← EReal.coe_mul, ← EReal.coe_add]
  rfl

/-- The hidden state of the first step at one element. -/
theorem firstH_apply (w : Wts) (h0 c0 z : FVec Ideal S32x128 .f32) (a : Fin 32) (b : Fin 128) (x h c : ℝ) (ex : z (ix2 a b) = (x : EReal))
    (eh : h0 (ix2 a b) = (h : EReal)) (ec : c0 (ix2 a b) = (c : EReal)) :
    firstH (parR w) h0 c0 z (ix2 a b) = ((nextH w x h c : ℝ) : EReal) := by
  unfold firstH firstO
  pointwise [k1_pay21, k1_pay20, k1_pay14, k1_pay16]
  rw [firstC_apply w h0 c0 z a b x h c ex eh ec, ex, eh]
  dsimp only [parR]
  rw [gate_first, sg_kernel, tanh_kernel, ← EReal.coe_mul]
  rfl

/-- The kernel's state after step `t` at one element is the recurrence over the reals. -/
theorem stt_apply (w : Wts) (h0 c0 z : FVec Ideal S32x128 .f32) (a : Fin 32) (b : Fin 128) (x h c : ℝ) (ex : z (ix2 a b) = (x : EReal))
    (eh : h0 (ix2 a b) = (h : EReal)) (ec : c0 (ix2 a b) = (c : EReal)) (t : ℕ) :
    (stt (parR w) h0 c0 z t).1 (ix2 a b) = (((st w x h c t).1 : ℝ) : EReal) ∧ (stt (parR w) h0 c0 z t).2 (ix2 a b) = (((st w x h c t).2 : ℝ) : EReal) := by
  induction t with
  | zero => exact ⟨firstH_apply w h0 c0 z a b x h c ex eh ec, firstC_apply w h0 c0 z a b x h c ex eh ec⟩
  | succ t ih => exact ⟨cellH_apply w _ a b _ _ ih.1 ih.2, cellC_apply w _ a b _ _ ih.1 ih.2⟩

end Cert.KernelIdeal.Value

end
-- ==== Proof.Value.Mlp.lean ====
/- The array the first call leaves, over the reals: the perceptron of every batch row. -/
module

public import proofs.«01_k».proof.Proof.Value.Cell
public import proofs.«01_k».proof.Proof.KernelIdeal.Run
public import Idealize.ShloMosaic.Lib.Pipeline.ValueKit

@[expose] public section

set_option maxRecDepth 16384

noncomputable section

namespace Cert.KernelIdeal.Value

open Cert.KernelIdeal Cert.KernelIdeal.Gen Cert.KernelIdeal.Hand Cert.Value
open Idealize.ShloMosaic Idealize.ShloMosaic.TcCoe

/-- The first call's block at a row: the perceptron of that row. -/
theorem mlpOut_apply (x0 : Vec Ideal S4096x8 .f32) (x1 : Vec Ideal S8x64 .f32) (x2 : Vec Ideal S1x64 .f32) (x3 : Vec Ideal S64x128 .f32)
    (x4 : Vec Ideal S1x128 .f32) (x5 : Vec Ideal S128x4 .f32) (x6 : Vec Ideal S1x4 .f32) (x7 : Vec Ideal S4x1 .f32) (x8 : Vec Ideal S1x1 .f32) (r : Fin 4096) :
    mlpOut x0 x1 x2 x3 x4 x5 x6 x7 x8 (ix2 r 0)
      = mlp (fun i => x0 (ix2 r i)) (fun j i => x1 (ix2 i j)) (fun j => x2 (ix2 0 j)) (fun j i => x3 (ix2 i j)) (fun j => x4 (ix2 0 j))
          (fun j i => x5 (ix2 i j)) (fun j => x6 (ix2 0 j)) (fun i => x7 (ix2 i 0)) (x8 (ix2 0 0)) := by
  unfold mlpOut
  pointwise [k0_pay1, k0_pay2, k0_pay3, k0_pay4]
  rfl

variable (V : (c : Dev nD) → (b : Ref sig .tc) → Buf (Elt Ideal) ((c : Thread nD τ).loc b))

/-- The blocks of rows and of results follow the point; every other window is the whole array at each point. -/
theorem idx0 : (∀ t, win0_0.index t = ![t.val, 0]) ∧ (∀ t, win0_9.index t = ![t.val, 0]) ∧ (∀ t, win0_1.index t = ![0, 0]) ∧ (∀ t, win0_2.index t = ![0, 0])
    ∧ (∀ t, win0_3.index t = ![0, 0]) ∧ (∀ t, win0_4.index t = ![0, 0]) ∧ (∀ t, win0_5.index t = ![0, 0]) ∧ (∀ t, win0_6.index t = ![0, 0])
    ∧ (∀ t, win0_7.index t = ![0, 0]) ∧ (∀ t, win0_8.index t = ![0, 0]) := by decide +kernel

/-- A row of a block of rows. -/
theorem blk0_row (c : Dev nD) (t : Fin cfg0.N) (r : Fin 4096) (u : Fin 1) (k : Fin 8) :
    (blk0 V c 0 t : FVec Ideal S4096x8 .f32) (ix2 r k) = (V c main_arg0 : FVec Ideal S8192x8 .f32) (ix2 (((cfg0.win 9).blk t).view.emb (ix2 r u : S4096x1.Idx) 0) k) := by
  obtain ⟨i0, i9, -⟩ := idx0
  blk_ext [blk0, i0 t, i9 t]

/-- The weights' and biases' windows are whole at every point. -/
theorem blk0_whole (c : Dev nD) (t : Fin cfg0.N) :
    (∀ a b, (blk0 V c 1 t : FVec Ideal S8x64 .f32) (ix2 a b) = (V c main_v0 : FVec Ideal S8x64 .f32) (ix2 a b))
    ∧ (∀ a b, (blk0 V c 2 t : FVec Ideal S1x64 .f32) (ix2 a b) = (V c main_v1 : FVec Ideal S1x64 .f32) (ix2 a b))
    ∧ (∀ a b, (blk0 V c 3 t : FVec Ideal S64x128 .f32) (ix2 a b) = (V c main_v2 : FVec Ideal S64x128 .f32) (ix2 a b))
    ∧ (∀ a b, (blk0 V c 4 t : FVec Ideal S1x128 .f32) (ix2 a b) = (V c main_v3 : FVec Ideal S1x128 .f32) (ix2 a b))
    ∧ (∀ a b, (blk0 V c 5 t : FVec Ideal S128x4 .f32) (ix2 a b) = (V c main_v4 : FVec Ideal S128x4 .f32) (ix2 a b))
    ∧ (∀ a b, (blk0 V c 6 t : FVec Ideal S1x4 .f32) (ix2 a b) = (V c main_v5 : FVec Ideal S1x4 .f32) (ix2 a b))
    ∧ (∀ a b, (blk0 V c 7 t : FVec Ideal S4x1 .f32) (ix2 a b) = (V c main_v6 : FVec Ideal S4x1 .f32) (ix2 a b))
    ∧ (∀ a b, (blk0 V c 8 t : FVec Ideal S1x1 .f32) (ix2 a b) = (V c main_v7 : FVec Ideal S1x1 .f32) (ix2 a b)) := by
  obtain ⟨-, -, i1, i2, i3, i4, i5, i6, i7, i8⟩ := idx0
  refine ⟨?_, ?_, ?_, ?_, ?_, ?_, ?_, ?_⟩ <;> intro a b
  · blk_ext [blk0, i1 t]
  · blk_ext [blk0, i2 t]
  · blk_ext [blk0, i3 t]
  · blk_ext [blk0, i4 t]
  · blk_ext [blk0, i5 t]
  · blk_ext [blk0, i6 t]
  · blk_ext [blk0, i7 t]
  · blk_ext [blk0, i8 t]

/-- What a point leaves of the result, row by row. -/
theorem res0_apply (c : Dev nD) (t : Fin cfg0.N) (r : Fin 4096) :
    (res0 V c t : FVec Ideal S4096x1 .f32) (ix2 r 0) = mlp (fun k => (blk0 V c 0 t : FVec Ideal S4096x8 .f32) (ix2 r k)) (fun j k => (V c main_v0 : FVec Ideal S8x64 .f32) (ix2 k j))
      (fun j => (V c main_v1 : FVec Ideal S1x64 .f32) (ix2 0 j)) (fun j k => (V c main_v2 : FVec Ideal S64x128 .f32) (ix2 k j)) (fun j => (V c main_v3 : FVec Ideal S1x128 .f32) (ix2 0 j))
      (fun j k => (V c main_v4 : FVec Ideal S128x4 .f32) (ix2 k j)) (fun j => (V c main_v5 : FVec Ideal S1x4 .f32) (ix2 0 j)) (fun k => (V c main_v6 : FVec Ideal S4x1 .f32) (ix2 k 0))
      ((V c main_v7 : FVec Ideal S1x1 .f32) (ix2 0 0)) := by
  obtain ⟨h1, h2, h3, h4, h5, h6, h7, h8⟩ := blk0_whole V c t
  unfold res0 out0
  rw [View.canon_unit_zero (by decide), View.ld_unit_zero (by decide), View.ld_unit_zero (by decide), View.ld_unit_zero (by decide), View.ld_unit_zero (by decide), View.ld_unit_zero (by decide),
    View.ld_unit_zero (by decide), View.ld_unit_zero (by decide), View.ld_unit_zero (by decide), View.ld_unit_zero (by decide)]
  exact (mlpOut_apply _ _ _ _ _ _ _ _ _ r).trans (mlp_congr (fun _ => rfl) (fun _ _ => h1 _ _) (fun _ => h2 _ _) (fun _ _ => h3 _ _) (fun _ => h4 _ _) (fun _ _ => h5 _ _)
    (fun _ => h6 _ _) (fun _ => h7 _ _) (h8 _ _))

/-- The array the first call leaves: the perceptron of every row. -/
theorem mlp_arr (c : Dev nD) :
    (dat0 V c).arrAt 9 cfg0.N = (fun i : S8192x1.Idx => mlp (fun k => (V c main_arg0 : FVec Ideal S8192x8 .f32) (ix2 (i 0) k)) (fun j k => (V c main_v0 : FVec Ideal S8x64 .f32) (ix2 k j))
      (fun j => (V c main_v1 : FVec Ideal S1x64 .f32) (ix2 0 j)) (fun j k => (V c main_v2 : FVec Ideal S64x128 .f32) (ix2 k j)) (fun j => (V c main_v3 : FVec Ideal S1x128 .f32) (ix2 0 j))
      (fun j k => (V c main_v4 : FVec Ideal S128x4 .f32) (ix2 k j)) (fun j => (V c main_v5 : FVec Ideal S1x4 .f32) (ix2 0 j)) (fun k => (V c main_v6 : FVec Ideal S4x1 .f32) (ix2 k 0))
      ((V c main_v7 : FVec Ideal S1x1 .f32) (ix2 0 0)) : FVec Ideal S8192x1 .f32) := by
  refine (dat0 V c).arrAt_eq_of_covers 9 _ (by decide +kernel) fun t hf y => ?_
  blk_simp
  rw [after0_9]
  idx_vars y
  obtain rfl : y1 = 0 := Subsingleton.elim _ _
  refine (res0_apply V c t y0).trans ?_
  rw [funext (blk0_row V c t y0 0)]

end Cert.KernelIdeal.Value

end
-- ==== Proof.Value.Lstm.lean ====
/- The array the second call leaves, over the reals: at every row and column, the sum over the steps of the row's hidden
   state times the head's weight, plus the head's bias. -/
module

public import proofs.«01_k».proof.Proof.Value.Cell
public import proofs.«01_k».proof.Proof.KernelIdeal.Run
public import Idealize.ShloMosaic.Lib.Pipeline.ValueKit

@[expose] public section

set_option maxRecDepth 16384

noncomputable section

namespace Cert.KernelIdeal.Value

open Cert.KernelIdeal Cert.KernelIdeal.Gen Cert.KernelIdeal.Hand Cert.Value
open Idealize.ShloMosaic Idealize.ShloMosaic.TcCoe

/-- The kernel's twelve scalars are the reals they are read from. -/
theorem par_eq (w : Wts) (x : FVec Ideal S3x4 .f32) (hi : ∀ k : Fin 4, x (ix2 0 k) = (w.wi k : EReal)) (hh : ∀ k : Fin 4, x (ix2 1 k) = (w.wh k : EReal))
    (hb : ∀ k : Fin 4, x (ix2 2 k) = (w.b k : EReal)) : par x = parR w := by
  have e : ∀ (n : Fin 3) (k : Fin 4), cell (F := Ideal) x n k = x (ix2 n k) := fun n k => congrArg x (ix2_eq_valueIdx n k).symm
  unfold par parR
  rw [e, e, e, e, e, e, e, e, e, e, e, e, hi, hi, hi, hi, hh, hh, hh, hh, hb, hb, hb, hb]

variable (V : (c : Dev nD) → (b : Ref sig .tc) → Buf (Elt Ideal) ((c : Thread nD τ).loc b))

/-- The windows' blocks: the states' and input's follow the batch half, the head's the column tile, the result's both. -/
theorem idx1 : (∀ t, win1_0.index t = ![0, 0]) ∧ (∀ t, win1_1.index t = ![t.val / 4, 0]) ∧ (∀ t, win1_2.index t = ![t.val / 4, 0]) ∧ (∀ t, win1_3.index t = ![t.val / 4, 0])
    ∧ (∀ t, win1_4.index t = ![0, t.val % 4]) ∧ (∀ t, win1_5.index t = ![0, t.val % 4]) ∧ (∀ t, win1_6.index t = ![t.val / 4, t.val % 4]) := by decide +kernel

/-- The place in the array of the result of row `r` and column `j` of the tile at point `t`. -/
abbrev place (t : Fin cfg1.N) (r : Fin 4096) (j : Fin 256) : S8192x1024.Idx := ((cfg1.win 6).blk t).view.emb (ix2 r j : S4096x256.Idx)

/-- Row `R` of the batch in the 64 by 128 arrangement. -/
abbrev rowIx (R : Fin 8192) : S64x128.Idx := ix2 (⟨R.val / 128, by omega⟩ : Fin 64) (⟨R.val % 128, by omega⟩ : Fin 128)

/-- The scalars' window is whole. -/
theorem blk1_par (c : Dev nD) (t : Fin cfg1.N) (a : Fin 3) (b : Fin 4) : (blk1 V c 0 t : FVec Ideal S3x4 .f32) (ix2 a b) = (V c main_v15 : FVec Ideal S3x4 .f32) (ix2 a b) := by
  obtain ⟨i0, -⟩ := idx1
  blk_ext [blk1, i0 t]

set_option maxHeartbeats 1000000 in
/-- The half's inputs and initial states, at the place of a row of the tile. -/
theorem blk1_rows (c : Dev nD) (t : Fin cfg1.N) (r : Fin 4096) (j : Fin 256) :
    (blk1 V c 1 (pt t.val) : FVec Ideal S32x128 .f32) (ix2 (⟨r.val / 128, by omega⟩ : Fin 32) (⟨r.val % 128, by omega⟩ : Fin 128)) = (V c main_v16 : FVec Ideal S64x128 .f32) (rowIx (place t r j 0))
    ∧ (blk1 V c 2 (pt t.val) : FVec Ideal S32x128 .f32) (ix2 (⟨r.val / 128, by omega⟩ : Fin 32) (⟨r.val % 128, by omega⟩ : Fin 128)) = (V c main_v17 : FVec Ideal S64x128 .f32) (rowIx (place t r j 0))
    ∧ (blk1 V c 3 (pt t.val) : FVec Ideal S32x128 .f32) (ix2 (⟨r.val / 128, by omega⟩ : Fin 32) (⟨r.val % 128, by omega⟩ : Fin 128)) = (V c main_v18 : FVec Ideal S64x128 .f32) (rowIx (place t r j 0)) := by
  obtain ⟨-, i1, i2, i3, -, -, i6⟩ := idx1
  have hp : (pt t.val).val = 4 * (t.val / 4) % 8 := rfl
  dsimp only [rowIx, place]
  refine ⟨?_, ?_, ?_⟩
  · blk_ext [blk1, i1 (pt t.val), i6 t, hp]
  · blk_ext [blk1, i2 (pt t.val), i6 t, hp]
  · blk_ext [blk1, i3 (pt t.val), i6 t, hp]

/-- The head's weights and bias, at the place of a column of the tile. -/
theorem blk1_head (c : Dev nD) (t : Fin cfg1.N) (r : Fin 4096) (j : Fin 256) :
    (∀ q : Fin 1024, (blk1 V c 4 t : FVec Ideal S1024x256 .f32) (ix2 q j) = (V c main_v19 : FVec Ideal S1024x1024 .f32) (ix2 q (place t r j 1)))
    ∧ (blk1 V c 5 t : FVec Ideal S1x256 .f32) (ix2 0 j) = (V c main_v20 : FVec Ideal S1x1024 .f32) (ix2 0 (place t r j 1)) := by
  obtain ⟨-, -, -, -, i4, i5, i6⟩ := idx1
  dsimp only [place]
  refine ⟨fun q => ?_, ?_⟩
  · blk_ext [blk1, i4 t, i6 t]
  · blk_ext [blk1, i5 t, i6 t]

/-- A product of the head: one sublane's hidden rows, contracted over the steps. -/
theorem pay_apply (w : FVec Ideal S1024x256 .f32) (b : FVec Ideal S1x256 .f32) (v : FVec Ideal S1x1024x128 .f32) (s : Fin 128) (j : Fin 256) :
    k1_pay37 w b v (ix2 s j) = (∑ q : Fin 1024, v (ix3 0 q s) * w (ix2 q j)) + b (ix2 0 j) := by
  pointwise [k1_pay37, k1_pay35, k1_pay36]

/-- What a point leaves of the result: the product of the half's hidden rows with the head's weights, plus the bias. -/
theorem res1_apply (c : Dev nD) (t : Fin cfg1.N) (r : Fin 4096) (j : Fin 256) :
    (res1 V c t : FVec Ideal S4096x256 .f32) (ix2 r j)
      = (∑ q : Fin 1024, ((stt (par (blk1 V c 0 (pt t.val))) (blk1 V c 2 (pt t.val)) (blk1 V c 3 (pt t.val)) (blk1 V c 1 (pt t.val)) q.val).1
            (ix2 (⟨r.val / 128, by omega⟩ : Fin 32) (⟨r.val % 128, by omega⟩ : Fin 128)) : EReal) * (blk1 V c 4 t : FVec Ideal S1024x256 .f32) (ix2 q j))
        + (blk1 V c 5 t : FVec Ideal S1x256 .f32) (ix2 0 j) := by
  have h := pay_apply (blk1 V c 4 t) (blk1 V c 5 t) (lane (hid V c t.val) (⟨r.val / 128, by omega⟩ : Fin 32)) (⟨r.val % 128, by omega⟩ : Fin 128) j
  simp only [ix2_eq_valueIdx] at h ⊢
  exact h

/-- The array the second call leaves. -/
theorem lstm_arr (c : Dev nD) (w : Wts) (z h c0 : Fin 8192 → ℝ) (hi : ∀ k : Fin 4, (V c main_v15 : FVec Ideal S3x4 .f32) (ix2 0 k) = (w.wi k : EReal))
    (hh : ∀ k : Fin 4, (V c main_v15 : FVec Ideal S3x4 .f32) (ix2 1 k) = (w.wh k : EReal)) (hb : ∀ k : Fin 4, (V c main_v15 : FVec Ideal S3x4 .f32) (ix2 2 k) = (w.b k : EReal))
    (ez : ∀ R, (V c main_v16 : FVec Ideal S64x128 .f32) (rowIx R) = (z R : EReal)) (eh : ∀ R, (V c main_v17 : FVec Ideal S64x128 .f32) (rowIx R) = (h R : EReal))
    (ec : ∀ R, (V c main_v18 : FVec Ideal S64x128 .f32) (rowIx R) = (c0 R : EReal)) :
    (dat1 V c).arrAt 6 cfg1.N = (fun i : S8192x1024.Idx => (∑ q : Fin 1024, (((st w (z (i 0)) (h (i 0)) (c0 (i 0)) q.val).1 : ℝ) : EReal) * (V c main_v19 : FVec Ideal S1024x1024 .f32) (ix2 q (i 1)))
      + (V c main_v20 : FVec Ideal S1x1024 .f32) (ix2 0 (i 1)) : FVec Ideal S8192x1024 .f32) := by
  refine (dat1 V c).arrAt_eq_of_covers 6 _ (by decide +kernel) fun t hf y => ?_
  blk_simp
  rw [after1_6]
  idx_vars y
  refine (res1_apply V c t y0 y1).trans ?_
  obtain ⟨b1, b2, b3⟩ := blk1_rows V c t y0 y1
  obtain ⟨b4, b5⟩ := blk1_head V c t y0 y1
  rw [par_eq w (blk1 V c 0 (pt t.val)) (fun k => (blk1_par V c _ 0 k).trans (hi k)) (fun k => (blk1_par V c _ 1 k).trans (hh k)) (fun k => (blk1_par V c _ 2 k).trans (hb k))]
  refine congrArg₂ _ (Finset.sum_congr rfl fun q _ => congrArg₂ _ ?_ (b4 q)) b5
  have hs := (stt_apply w (blk1 V c 2 (pt t.val)) (blk1 V c 3 (pt t.val)) (blk1 V c 1 (pt t.val)) (⟨y0.val / 128, by omega⟩ : Fin 32) (⟨y0.val % 128, by omega⟩ : Fin 128)
    _ _ _ (b1.trans (ez _)) (b2.trans (eh _)) (b3.trans (ec _)) q.val).1
  exact hs

end Cert.KernelIdeal.Value

end
-- ==== Proof.Value.Kernel.lean ====
/- The kernel's result over the reals, from its arguments. -/
module

public import proofs.«01_k».proof.Proof.Value.Mlp
public import proofs.«01_k».proof.Proof.Value.Lstm
public import Idealize.ShloMosaic.Lib.StableHlo.ReadAt

@[expose] public section

set_option maxRecDepth 16384

noncomputable section

namespace Cert.KernelIdeal.Value

open Cert.KernelIdeal Cert.KernelIdeal.Gen Cert.KernelIdeal.Hand Cert.Value
open Idealize.ShloMosaic Idealize.ShloMosaic.TcCoe Idealize.ShloMosaic.StableHlo

/-- What the first host operations leave: the weights transposed, and the biases as rows. -/
theorem host0 (V : Valuation τ sig (Elt Ideal)) :
    (∀ j k, (after hostOps0 V main_v0 : FVec Ideal S8x64 .f32) (ix2 k j) = (V main_arg3 : FVec Ideal S64x8 .f32) (ix2 j k))
    ∧ (∀ j, (after hostOps0 V main_v1 : FVec Ideal S1x64 .f32) (ix2 0 j) = (V main_arg4 : FVec Ideal S64 .f32) (ix1 j))
    ∧ (∀ j k, (after hostOps0 V main_v2 : FVec Ideal S64x128 .f32) (ix2 k j) = (V main_arg5 : FVec Ideal S128x64 .f32) (ix2 j k))
    ∧ (∀ j, (after hostOps0 V main_v3 : FVec Ideal S1x128 .f32) (ix2 0 j) = (V main_arg6 : FVec Ideal S128 .f32) (ix1 j))
    ∧ (∀ j k, (after hostOps0 V main_v4 : FVec Ideal S128x4 .f32) (ix2 k j) = (V main_arg7 : FVec Ideal S4x128 .f32) (ix2 j k))
    ∧ (∀ j, (after hostOps0 V main_v5 : FVec Ideal S1x4 .f32) (ix2 0 j) = (V main_arg8 : FVec Ideal S4 .f32) (ix1 j))
    ∧ (∀ k, (after hostOps0 V main_v6 : FVec Ideal S4x1 .f32) (ix2 k 0) = (V main_arg9 : FVec Ideal S1x4 .f32) (ix2 0 k))
    ∧ ((after hostOps0 V main_v7 : FVec Ideal S1x1 .f32) (ix2 0 0) = (V main_arg10 : FVec Ideal S1 .f32) (ix1 0)) := by
  refine ⟨fun j k => ?_, fun j => ?_, fun j k => ?_, fun j => ?_, fun j k => ?_, fun j => ?_, fun k => ?_, ?_⟩ <;> after_reads_at <;> rfl

/-- What the host operations between the calls leave: the table of scalars, the rows of inputs and of initial states rearranged, the head's weights transposed, its bias as a row. -/
theorem host1 (V : Valuation τ sig (Elt Ideal)) :
    (∀ k, (after hostOps1 V main_v15 : FVec Ideal S3x4 .f32) (ix2 0 k) = (V main_arg11 : FVec Ideal S4x1 .f32) (ix2 k 0))
    ∧ (∀ k, (after hostOps1 V main_v15 : FVec Ideal S3x4 .f32) (ix2 1 k) = (V main_arg13 : FVec Ideal S4x1 .f32) (ix2 k 0))
    ∧ (∀ k, (after hostOps1 V main_v15 : FVec Ideal S3x4 .f32) (ix2 2 k) = addf (F := Ideal) (φ := .f32) (s := S4) (V main_arg12) (V main_arg14) (ix1 k))
    ∧ (∀ R, (after hostOps1 V main_v16 : FVec Ideal S64x128 .f32) (rowIx R) = (V main_v8 : FVec Ideal S8192x1 .f32) (ix2 R 0))
    ∧ (∀ R, (after hostOps1 V main_v17 : FVec Ideal S64x128 .f32) (rowIx R) = (V main_arg1 : FVec Ideal S8192x1 .f32) (ix2 R 0))
    ∧ (∀ R, (after hostOps1 V main_v18 : FVec Ideal S64x128 .f32) (rowIx R) = (V main_arg2 : FVec Ideal S8192x1 .f32) (ix2 R 0))
    ∧ (∀ j k, (after hostOps1 V main_v19 : FVec Ideal S1024x1024 .f32) (ix2 k j) = (V main_arg15 : FVec Ideal S1024x1024 .f32) (ix2 j k))
    ∧ (∀ j, (after hostOps1 V main_v20 : FVec Ideal S1x1024 .f32) (ix2 0 j) = (V main_arg16 : FVec Ideal S1024 .f32) (ix1 j)) := by
  refine ⟨fun k => ?_, fun k => ?_, fun k => ?_, fun R => ?_, fun R => ?_, fun R => ?_, fun j k => ?_, fun j => ?_⟩
  · after_reads_at; after_reads_at
  · after_reads_at; after_reads_at
  · after_reads_at; after_reads_at
  · after_reads_at; exact congrArg _ (congrArg (fun a => ix2 a 0) (Fin.ext (Nat.div_add_mod' R.val 128)))
  · after_reads_at; exact congrArg _ (congrArg (fun a => ix2 a 0) (Fin.ext (Nat.div_add_mod' R.val 128)))
  · after_reads_at; exact congrArg _ (congrArg (fun a => ix2 a 0) (Fin.ext (Nat.div_add_mod' R.val 128)))
  · after_reads_at
  · after_reads_at

variable (m : (ℓ : Loc nD τ sig) → Buf (Elt Ideal) ℓ)

/-- An argument of the launch. -/
abbrev arg (c : Dev nD) (b : Ref sig .tc) : Buf (Elt Ideal) ((c.tc : Thread nD τ).loc b) := m ((c.tc : Thread nD τ).loc b)

/-- An argument is what it was when the second stretch of host operations starts. -/
theorem X2_arg (c : Dev nD) (b : Ref sig .tc) (h0 : b ≠ main_v8) (h1 : b ∉ hostOps0_W) : X2 m c b = arg m c b :=
  (Function.update_of_ne (f := X1 m c) (fun e => h0 (Proc.devRef_injective _ e)) _).trans (after_of_writes_sub hostOps0 _ hostOps0_writes h1)

/-- The first call's result is the perceptron of every row. -/
theorem X2_mlp (c : Dev nD) (R : Fin 8192) :
    (X2 m c main_v8 : FVec Ideal S8192x1 .f32) (ix2 R 0) = mlpRow (arg m c main_arg0) (arg m c main_arg3) (arg m c main_arg4) (arg m c main_arg5) (arg m c main_arg6)
      (arg m c main_arg7) (arg m c main_arg8) (arg m c main_arg9) (arg m c main_arg10) R := by
  obtain ⟨e0, e1, e2, e3, e4, e5, e6, e7⟩ := host0 (X0 m c)
  have ea : X1 m c main_arg0 = arg m c main_arg0 := after_of_writes_sub hostOps0 _ hostOps0_writes (by decide)
  refine (congrFun ((Function.update_self (f := X1 m c) ..).trans (mlp_arr (onRefs (X1 m)) c)) (ix2 R 0)).trans ?_
  exact mlp_congr (fun k => congrFun ea _) e0 e1 e2 e3 e4 e5 e6 e7

/-- The kernel's result at row `R` and column `j`: the sum over the steps of the hidden state times the head's weight, plus the head's bias. -/
theorem result_kernel (c : Dev nD) (w : Wts) (hi : ∀ k : Fin 4, (arg m c main_arg11 : FVec Ideal S4x1 .f32) (ix2 k 0) = (w.wi k : EReal))
    (hh : ∀ k : Fin 4, (arg m c main_arg13 : FVec Ideal S4x1 .f32) (ix2 k 0) = (w.wh k : EReal))
    (hb : ∀ k : Fin 4, addf (F := Ideal) (φ := .f32) (s := S4) (arg m c main_arg12) (arg m c main_arg14) (ix1 k) = (w.b k : EReal))
    (z h c0 : Fin 8192 → ℝ)
    (hz : ∀ R, mlpRow (arg m c main_arg0) (arg m c main_arg3) (arg m c main_arg4) (arg m c main_arg5) (arg m c main_arg6) (arg m c main_arg7) (arg m c main_arg8)
      (arg m c main_arg9) (arg m c main_arg10) R = (z R : EReal))
    (h1 : ∀ R, (arg m c main_arg1 : FVec Ideal S8192x1 .f32) (ix2 R 0) = (h R : EReal)) (h2 : ∀ R, (arg m c main_arg2 : FVec Ideal S8192x1 .f32) (ix2 R 0) = (c0 R : EReal))
    (R : Fin 8192) (j : Fin 1024) :
    (X4 m c main_v21 : FVec Ideal S8192x1024 .f32) (ix2 R j)
      = (∑ t : Fin 1024, (((st w (z R) (h R) (c0 R) t.val).1 : ℝ) : EReal) * (arg m c main_arg15 : FVec Ideal S1024x1024 .f32) (ix2 j t))
        + (arg m c main_arg16 : FVec Ideal S1024 .f32) (ix1 j) := by
  obtain ⟨e1, e2, e3, e4, e5, e6, e7, e8⟩ := host1 (X2 m c)
  have ka : ∀ b : Ref sig .tc, b ≠ main_v8 → b ∉ hostOps0_W → X2 m c b = arg m c b := X2_arg m c
  rw [ka main_arg11 (by decide) (by decide)] at e1
  rw [ka main_arg13 (by decide) (by decide)] at e2
  rw [ka main_arg12 (by decide) (by decide), ka main_arg14 (by decide) (by decide)] at e3
  rw [ka main_arg1 (by decide) (by decide)] at e5
  rw [ka main_arg2 (by decide) (by decide)] at e6
  rw [ka main_arg15 (by decide) (by decide)] at e7
  rw [ka main_arg16 (by decide) (by decide)] at e8
  refine (congrFun ((Function.update_self (f := X3 m c) ..).trans (lstm_arr (onRefs (X3 m)) c w z h c0 (fun k => (e1 k).trans (hi k)) (fun k => (e2 k).trans (hh k))
    (fun k => (e3 k).trans (hb k)) (fun R => (e4 R).trans ((X2_mlp m c R).trans (hz R))) (fun R => (e5 R).trans (h1 R)) (fun R => (e6 R).trans (h2 R)))) (ix2 R j)).trans ?_
  exact congrArg₂ _ (Finset.sum_congr rfl fun q _ => congrArg₂ _ rfl (e7 j q)) (e8 j)

end Cert.KernelIdeal.Value

end
-- ==== Proof.Value.RefStep.lean ====
/- The reference's loop: after `n` trips the carried state of a batch row is the recurrence over the reals, and the first
   `n` rows of the collected outputs are its hidden states. -/
module

public import proofs.«01_k».proof.Proof.Value.Cell
public import proofs.«01_k».proof.Proof.Gen.ReferenceIdeal.Run
public import Idealize.ShloMosaic.Lib.Tactic.CleanTypes
public import Idealize.ShloMosaic.Lib.WordCmp

@[expose] public section

set_option maxRecDepth 16384

noncomputable section

namespace Cert.ReferenceIdeal.Hand

open Cert.ReferenceIdeal Cert.ReferenceIdeal.Gen Cert.ReferenceIdeal.Value Cert.Value
open Idealize.ShloMosaic Idealize.ShloMosaic.TcCoe

/-- The weights that the loop carries are the reals `w`. -/
structure HasWts (V : Valuation τ sig (Elt Ideal)) (w : Wts) : Prop where
  wi : ∀ k : Fin 4, (V (Proc.devRef .tc main_v42_0) : FVec Ideal S4x1 .f32) (ix2 k 0) = (w.wi k : EReal)
  wh : ∀ k : Fin 4, (V (Proc.devRef .tc main_v42_1) : FVec Ideal S4x1 .f32) (ix2 k 0) = (w.wh k : EReal)
  b : ∀ k : Fin 4, (V (Proc.devRef .tc main_v42_2) : FVec Ideal S4 .f32) (ix1 k) = (w.b k : EReal)

/-- Batch row `r` of what the loop carries: the input, the hidden state and the cell state. -/
structure HasRow (V : Valuation τ sig (Elt Ideal)) (r : Fin 8192) (s : ℝ × ℝ × ℝ) : Prop where
  x : (V (Proc.devRef .tc main_v42_4) : FVec Ideal S8192x1 .f32) (ix2 r 0) = (s.1 : EReal)
  h : (V (Proc.devRef .tc main_v42_5) : FVec Ideal S8192x1 .f32) (ix2 r 0) = (s.2.1 : EReal)
  c : (V (Proc.devRef .tc main_v42_6) : FVec Ideal S8192x1 .f32) (ix2 r 0) = (s.2.2 : EReal)

section Step

variable {V : Valuation τ sig (Elt Ideal)} {w : Wts} {r : Fin 8192} {s : ℝ × ℝ × ℝ}

/-- A gate of the reference. -/
theorem gate_ref (hw : HasWts V w) (hr : HasRow V r s) (k : Fin 4) :
    (res_main_while0b_v56 V : FVec Ideal S8192x4 .f32) (ix2 r k) = ((gate w k s.1 s.2.1 : ℝ) : EReal) := by
  unfold res_main_while0b_v56
  clean_types
  pointwise
  rw [Fin.sum_univ_one, Fin.sum_univ_one]
  rw [hr.x, hr.h, hw.wi, hw.wh, hw.b, ← EReal.coe_mul, ← EReal.coe_mul, ← EReal.coe_add, ← EReal.coe_add, gate]

/-- The reference's next cell state. -/
theorem cell_ref (hw : HasWts V w) (hr : HasRow V r s) :
    (res_main_while0b_v76 V : FVec Ideal S8192x1 .f32) (ix2 r 0) = ((nextC w s.1 s.2.1 s.2.2 : ℝ) : EReal) := by
  unfold res_main_while0b_v76
  clean_types
  pointwise
  rw [gate_ref hw hr, gate_ref hw hr, gate_ref hw hr, hr.c, sg_reference, sg_reference, Ideal.tanh_coe, ← EReal.coe_mul, ← EReal.coe_mul, ← EReal.coe_add]
  rfl

/-- The reference's next hidden state. -/
theorem hid_ref (hw : HasWts V w) (hr : HasRow V r s) :
    (res_main_while0b_v84 V : FVec Ideal S8192x1 .f32) (ix2 r 0) = ((nextH w s.1 s.2.1 s.2.2 : ℝ) : EReal) := by
  unfold res_main_while0b_v84
  clean_types
  pointwise
  rw [gate_ref hw hr, cell_ref hw hr, sg_reference, Ideal.tanh_coe, ← EReal.coe_mul]
  rfl

/-- The collected outputs after a trip: row `k` is the new hidden states, the others stay. -/
theorem row_ref (V : Valuation τ sig (Elt Ideal)) (k : ℕ) (hk : k < 1024) (e : (V (Proc.devRef .tc main_v42_3) : IVec S_ 32) = fun _ => BitVec.ofNat 32 k)
    (t : Fin 1024) (r : Fin 8192) :
    (step_main_v42_7 V : FVec Ideal S1024x8192 .f32) (ix2 t r)
      = if t.val = k then (res_main_while0b_v84 V : FVec Ideal S8192x1 .f32) (ix2 r 0) else (V (Proc.devRef .tc main_v42_7) : FVec Ideal S1024x8192 .f32) (ix2 t r) := by
  unfold step_main_v42_7
  clean_types
  have e2 : ∀ a : Fin 2, BitVec.toInt ((![(V (Proc.devRef .tc main_v42_3) : IVec S_ 32), constantI S_ 32 0#32] : Fin 2 → IVec S_ 32) a (Shape.Idx.first h_S_))
      = (((![k, 0] : Fin 2 → ℕ) a : ℕ) : ℤ) := by
    intro a
    fin_cases a
    · show BitVec.toInt ((V (Proc.devRef .tc main_v42_3) : IVec S_ 32) (Shape.Idx.first h_S_)) = (k : ℤ)
      rw [e]; exact WordCmp.toInt_ofNat_of_lt (by omega)
    · rfl
  have hS : S1024x8192.Slices ![k, 0] S1x8192 := ⟨rfl, by intro a; fin_cases a; · show k + 1 ≤ 1024; omega
                                                          · show 0 + 8192 ≤ 8192; omega⟩
  rw [id_eq, WordCmp.dynamicUpdateSlice_eq_update _ _ _ _ ![k, 0] hS e2]
  pointwise
  by_cases h : t.val = k
  · rw [dif_pos (by omega), if_pos h]
  · rw [dif_neg (by omega), if_neg h]

/-- What the loop carries of one row before trip `n`. -/
def pre (w : Wts) (z h c : ℝ) : ℕ → ℝ × ℝ × ℝ
  | 0 => (z, h, c)
  | n + 1 => ((st w z h c n).1, (st w z h c n).1, (st w z h c n).2)

/-- The recurrence's state after step `n` is the step from what is carried before it. -/
theorem st_eq (w : Wts) (z h c : ℝ) (n : ℕ) :
    st w z h c n = (nextH w (pre w z h c n).1 (pre w z h c n).2.1 (pre w z h c n).2.2, nextC w (pre w z h c n).1 (pre w z h c n).2.1 (pre w z h c n).2.2) := by
  cases n <;> rfl

/-- After `n` trips, of one batch row: the weights, the counter, the state carried and the outputs so far. -/
theorem iter_ref (hw : HasWts V w) (z h c : ℝ) (hr : HasRow V r (z, h, c)) (e : (V (Proc.devRef .tc main_v42_3) : IVec S_ 32) = fun _ => 0#32) (n : ℕ) (hn : n ≤ 1024) :
    HasWts (STEP^[n] V) w ∧ ((STEP^[n] V) (Proc.devRef .tc main_v42_3) : IVec S_ 32) = (fun _ => BitVec.ofNat 32 n) ∧ HasRow (STEP^[n] V) r (pre w z h c n)
      ∧ ∀ t : Fin 1024, t.val < n → ((STEP^[n] V) (Proc.devRef .tc main_v42_7) : FVec Ideal S1024x8192 .f32) (ix2 t r) = (((st w z h c t.val).1 : ℝ) : EReal) := by
  induction n with
  | zero => exact ⟨hw, e, hr, fun t ht => absurd ht (Nat.not_lt_zero _)⟩
  | succ n ih =>
    obtain ⟨iw, ie, ir, io⟩ := ih (by omega)
    rw [Function.iterate_succ_apply']
    generalize hX : STEP^[n] V = X at *
    have hh := hid_ref iw ir
    have hc := cell_ref iw ir
    refine ⟨⟨fun k => ?_, fun k => ?_, fun k => ?_⟩, ?_, ⟨?_, ?_, ?_⟩, fun t ht => ?_⟩
    · rw [STEP_main_v42_0]; exact iw.wi k
    · rw [STEP_main_v42_1]; exact iw.wh k
    · rw [STEP_main_v42_2]; exact iw.b k
    · rw [STEP_main_v42_3]
      unfold step_main_v42_3
      clean_types
      rw [ie]
      funext j
      show BitVec.ofNat 32 n + 1#32 = BitVec.ofNat 32 (n + 1)
      rw [BitVec.ofNat_add]
    · rw [STEP_main_v42_4]; unfold step_main_v42_4; rw [id_eq, pre, st_eq]; exact hh
    · rw [STEP_main_v42_5]; unfold step_main_v42_5; rw [id_eq, pre, st_eq]; exact hh
    · rw [STEP_main_v42_6]; unfold step_main_v42_6; rw [id_eq, pre, st_eq]; exact hc
    · rw [STEP_main_v42_7, row_ref X n (by omega) ie]
      by_cases h1 : t.val = n
      · rw [if_pos h1, hh, h1, st_eq]
      · rw [if_neg h1]; exact io t (by omega)

end Step

end Cert.ReferenceIdeal.Hand

end
-- ==== Proof.Value.RefEntry.lean ====
/- What the reference's loop finds at its entry: the weights, the initial states, and the perceptron's output as the
   first input. -/
module

public import proofs.«01_k».proof.Proof.Value.RefStep
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Cert.Value
open Idealize.ShloMosaic Idealize.ShloMosaic.TcCoe Idealize.ShloMosaic.StableHlo Idealize.ShloMosaic.HostLoop

variable (m : (ℓ : Loc nD τ sig) → Buf (Elt Ideal) ℓ) (c : Dev nD)

/-- The perceptron's first layer. -/
theorem layer1 (V : Valuation τ sig (Elt Ideal)) (r : Fin 8192) (k : Fin 64) :
    (after hostOps0_1 (after hostOps0 V) (Proc.devRef .tc main_v9) : FVec Ideal S8192x64 .f32) (ix2 r k)
      = dense (fun i : Fin 8 => (V (Proc.devRef .tc main_arg0) : FVec Ideal S8192x8 .f32) (ix2 r i)) (fun i => (V (Proc.devRef .tc main_arg3) : FVec Ideal S64x8 .f32) (ix2 k i))
        ((V (Proc.devRef .tc main_arg4) : FVec Ideal S64 .f32) (ix1 k)) := by
  after_reads_at
  rfl

/-- Its second layer. -/
theorem layer2 (V : Valuation τ sig (Elt Ideal)) (r : Fin 8192) (k : Fin 128) :
    (after hostOps0_3 (after hostOps0_2 V) (Proc.devRef .tc main_v19) : FVec Ideal S8192x128 .f32) (ix2 r k)
      = dense (fun i : Fin 64 => (V (Proc.devRef .tc main_v9) : FVec Ideal S8192x64 .f32) (ix2 r i)) (fun i => (V (Proc.devRef .tc main_arg5) : FVec Ideal S128x64 .f32) (ix2 k i))
        ((V (Proc.devRef .tc main_arg6) : FVec Ideal S128 .f32) (ix1 k)) := by
  after_reads_at
  rfl

/-- Its third layer. -/
theorem layer3 (V : Valuation τ sig (Elt Ideal)) (r : Fin 8192) (k : Fin 4) :
    (after hostOps0_5 (after hostOps0_4 V) (Proc.devRef .tc main_v29) : FVec Ideal S8192x4 .f32) (ix2 r k)
      = dense (fun i : Fin 128 => (V (Proc.devRef .tc main_v19) : FVec Ideal S8192x128 .f32) (ix2 r i)) (fun i => (V (Proc.devRef .tc main_arg7) : FVec Ideal S4x128 .f32) (ix2 k i))
        ((V (Proc.devRef .tc main_arg8) : FVec Ideal S4 .f32) (ix1 k)) := by
  after_reads_at
  rfl

/-- Its last layer, which is the loop's first input. -/
theorem layer4 (V : Valuation τ sig (Elt Ideal)) (r : Fin 8192) :
    (after hostOps0_8 (after hostOps0_7 (after hostOps0_6 V)) (Proc.devRef .tc main_v42_4) : FVec Ideal S8192x1 .f32) (ix2 r 0)
      = dense (fun i : Fin 4 => (V (Proc.devRef .tc main_v29) : FVec Ideal S8192x4 .f32) (ix2 r i)) (fun i => (V (Proc.devRef .tc main_arg9) : FVec Ideal S1x4 .f32) (ix2 0 i))
        ((V (Proc.devRef .tc main_arg10) : FVec Ideal S1 .f32) (ix1 0)) := by
  after_reads_at
  simp only [id]
  pointwise
  rfl

/-- An argument of the launch. -/
abbrev arg (m : (ℓ : Loc nD τ sig) → Buf (Elt Ideal) ℓ) (c : Dev nD) (b : Ref sig .tc) : Buf (Elt Ideal) ((c.tc : Thread nD τ).loc b) := m ((c.tc : Thread nD τ).loc b)

/-- The loop's first input is the perceptron's output. -/
theorem entry_x (r : Fin 8192) :
    (entryContents preI m c (Proc.devRef .tc main_v42_4) : FVec Ideal S8192x1 .f32) (ix2 r 0)
      = mlpRow (arg m c main_arg0) (arg m c main_arg3) (arg m c main_arg4) (arg m c main_arg5) (arg m c main_arg6) (arg m c main_arg7) (arg m c main_arg8)
          (arg m c main_arg9) (arg m c main_arg10) r := by
  simp only [entryContents, afterL_cons, afterL_nil]
  unfold mlpRow mlp
  refine (layer4 _ r).trans (dense_congr (fun i => (layer3 _ r i).trans (dense_congr (fun i => (layer2 _ r i).trans (dense_congr (fun i => (layer1 _ r i).trans rfl)
    (fun _ => congrFun ?_ _) (congrFun ?_ _))) (fun _ => congrFun ?_ _) (congrFun ?_ _))) (fun _ => congrFun ?_ _) (congrFun ?_ _))
  · rw [keep_main_arg5_hostOps0_1, keep_main_arg5_hostOps0]
  · rw [keep_main_arg6_hostOps0_1, keep_main_arg6_hostOps0]
  · rw [keep_main_arg7_hostOps0_3, keep_main_arg7_hostOps0_2, keep_main_arg7_hostOps0_1, keep_main_arg7_hostOps0]
  · rw [keep_main_arg8_hostOps0_3, keep_main_arg8_hostOps0_2, keep_main_arg8_hostOps0_1, keep_main_arg8_hostOps0]
  · rw [keep_main_arg9_hostOps0_5, keep_main_arg9_hostOps0_4, keep_main_arg9_hostOps0_3, keep_main_arg9_hostOps0_2, keep_main_arg9_hostOps0_1, keep_main_arg9_hostOps0]
  · rw [keep_main_arg10_hostOps0_5, keep_main_arg10_hostOps0_4, keep_main_arg10_hostOps0_3, keep_main_arg10_hostOps0_2, keep_main_arg10_hostOps0_1, keep_main_arg10_hostOps0]

/-- The loop carries the arguments' weights, and the sum of the two biases. -/
theorem entry_wts (w : Wts) (hi : ∀ k : Fin 4, (arg m c main_arg11 : FVec Ideal S4x1 .f32) (ix2 k 0) = (w.wi k : EReal))
    (hh : ∀ k : Fin 4, (arg m c main_arg13 : FVec Ideal S4x1 .f32) (ix2 k 0) = (w.wh k : EReal))
    (hb : ∀ k : Fin 4, addf (F := Ideal) (φ := .f32) (s := S4) (arg m c main_arg12) (arg m c main_arg14) (ix1 k) = (w.b k : EReal)) :
    HasWts (entryContents preI m c) w := by
  refine ⟨fun k => ?_, fun k => ?_, fun k => ?_⟩ <;> simp only [entryContents, afterL_cons, afterL_nil]
  · after_reads_at; exact hi k
  · after_reads_at; exact hh k
  · after_reads_at; exact hb k

/-- The loop starts at the perceptron's output and the initial states. -/
theorem entry_row (r : Fin 8192) (z h c0 : ℝ)
    (hz : mlpRow (arg m c main_arg0) (arg m c main_arg3) (arg m c main_arg4) (arg m c main_arg5) (arg m c main_arg6) (arg m c main_arg7) (arg m c main_arg8)
      (arg m c main_arg9) (arg m c main_arg10) r = (z : EReal))
    (hh : (arg m c main_arg1 : FVec Ideal S8192x1 .f32) (ix2 r 0) = (h : EReal)) (hc : (arg m c main_arg2 : FVec Ideal S8192x1 .f32) (ix2 r 0) = (c0 : EReal)) :
    HasRow (entryContents preI m c) r (z, h, c0) := by
  refine ⟨(entry_x m c r).trans hz, ?_, ?_⟩ <;> simp only [entryContents, afterL_cons, afterL_nil]
  · after_reads_at; exact hh
  · after_reads_at; exact hc

/-- The reference's result at row `r` and column `j`: the sum over the steps of the hidden state times the head's weight, plus the head's bias. -/
theorem result_ref (w : Wts) (hi : ∀ k : Fin 4, (arg m c main_arg11 : FVec Ideal S4x1 .f32) (ix2 k 0) = (w.wi k : EReal))
    (hh : ∀ k : Fin 4, (arg m c main_arg13 : FVec Ideal S4x1 .f32) (ix2 k 0) = (w.wh k : EReal))
    (hb : ∀ k : Fin 4, addf (F := Ideal) (φ := .f32) (s := S4) (arg m c main_arg12) (arg m c main_arg14) (ix1 k) = (w.b k : EReal))
    (r : Fin 8192) (z h c0 : ℝ)
    (hz : mlpRow (arg m c main_arg0) (arg m c main_arg3) (arg m c main_arg4) (arg m c main_arg5) (arg m c main_arg6) (arg m c main_arg7) (arg m c main_arg8)
      (arg m c main_arg9) (arg m c main_arg10) r = (z : EReal))
    (h1 : (arg m c main_arg1 : FVec Ideal S8192x1 .f32) (ix2 r 0) = (h : EReal)) (h2 : (arg m c main_arg2 : FVec Ideal S8192x1 .f32) (ix2 r 0) = (c0 : EReal)) (j : Fin 1024) :
    (out_main_v48 (STEP^[1024] (entryContents preI m c)) : FVec Ideal S8192x1024 .f32) (ix2 r j)
      = (∑ t : Fin 1024, (((st w z h c0 t.val).1 : ℝ) : EReal) * (arg m c main_arg15 : FVec Ideal S1024x1024 .f32) (ix2 j t))
        + (arg m c main_arg16 : FVec Ideal S1024 .f32) (ix1 j) := by
  have hs := (iter_ref (entry_wts m c w hi hh hb) z h c0 (entry_row m c r z h c0 hz h1 h2) (ctr_entry m c) 1024 le_rfl).2.2.2
  unfold out_main_v48
  rw [iter_main_arg15, iter_main_arg16]
  clean_types
  pointwise
  refine congrArg₂ _ (Finset.sum_congr rfl fun t _ => ?_) rfl
  rw [hs t t.isLt]

end Cert.ReferenceIdeal.Hand

end
-- ==== Proof.Value.Finite.lean ====
/- The precondition `finite`, read back: every element of the fifteen arrays it names is a real. -/
module

public import proofs.«01_k».proof.Proof.Value.Cell
public import proofs.«01_k».proof.Pre_finite
public import Idealize.ShloMosaic.Lib.ReduceAll

@[expose] public section

set_option maxRecDepth 16384

noncomputable section

namespace Cert.Pre_finite

open Idealize.ShloMosaic Cert.Value

/-- The shape relations the precondition's operations take. -/
instance facts : Facts where
  bcast_S_S8192x8 := by decide
  reducesTo_S8192x8_S_d0_1 := by decide
  h_S_ := by decide
  bcast_S_S8192x1 := by decide
  reducesTo_S8192x1_S_d0_1 := by decide
  bcast_S_S64x8 := by decide
  reducesTo_S64x8_S_d0_1 := by decide
  bcast_S_S64 := by decide
  reducesTo_S64_S_d0 := by decide
  bcast_S_S128x64 := by decide
  reducesTo_S128x64_S_d0_1 := by decide
  bcast_S_S128 := by decide
  reducesTo_S128_S_d0 := by decide
  bcast_S_S4x128 := by decide
  reducesTo_S4x128_S_d0_1 := by decide
  bcast_S_S4 := by decide
  reducesTo_S4_S_d0 := by decide
  bcast_S_S1x4 := by decide
  reducesTo_S1x4_S_d0_1 := by decide
  bcast_S_S1 := by decide
  reducesTo_S1_S_d0 := by decide
  bcast_S_S4x1 := by decide
  reducesTo_S4x1_S_d0_1 := by decide

/-- An extended real whose absolute value is below the top is a real. -/
theorem real_of_abs_lt {x : EReal} (h : max x (-x) < ⊤) : IsReal x := by
  induction x using EReal.rec with
  | bot => simp at h
  | coe r => exact ⟨r, rfl⟩
  | top => simp at h

/-- An array all of whose absolute values compare below the infinity holds reals only. -/
theorem real_of_all {s : Shape} {axes : List (Fin s.rank)} (x : FVec Ideal s .f32) (hb : S_.BroadcastsInDim s (![] : Fin 0 → Fin s.rank)) (hr : s.ReducesTo axes S_) (j : S_.Idx)
    (e : Host.reduce IntOp.andi (cmpf .olt (Host.absf x) (broadcastInDim s ![] hb (constant (F := Ideal) S_ .f32 0x7F800000#32))) (constantI S_ 1 1#1) hr facts.h_S_ j = 1#1) (i : s.Idx) :
    IsReal (x i) := by
  have h := Host.reduce_andi_all _ _ hr facts.h_S_ j e i
  refine real_of_abs_lt ?_
  have h2 : Ideal.cmp .olt (max (x i) (-(x i))) (Ideal.ofBits .f32 0x7F800000#32) = 1#1 := h
  rw [show Ideal.ofBits .f32 0x7F800000#32 = (⊤ : EReal) from by simp [Ideal.ofBits, Ideal.ieee]] at h2
  by_contra hn
  simp [Ideal.cmp, hn] at h2

/-- The precondition says that every element of the first fifteen arrays is a real. -/
theorem real_of_fn (a0 : FVec Ideal S8192x8 .f32) (a1 : FVec Ideal S8192x1 .f32) (a2 : FVec Ideal S8192x1 .f32) (a3 : FVec Ideal S64x8 .f32) (a4 : FVec Ideal S64 .f32) (a5 : FVec Ideal S128x64 .f32) (a6 : FVec Ideal S128 .f32) (a7 : FVec Ideal S4x128 .f32) (a8 : FVec Ideal S4 .f32) (a9 : FVec Ideal S1x4 .f32) (a10 : FVec Ideal S1 .f32) (a11 : FVec Ideal S4x1 .f32) (a12 : FVec Ideal S4 .f32) (a13 : FVec Ideal S4x1 .f32) (a14 : FVec Ideal S4 .f32) (a15 : FVec Ideal S1024x1024 .f32) (a16 : FVec Ideal S1024 .f32)
    (e : fn (F := Ideal) a0 a1 a2 a3 a4 a5 a6 a7 a8 a9 a10 a11 a12 a13 a14 a15 a16 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) := by
  have h := congrFun e (Shape.Idx.first facts.h_S_)
  simp only [fn, fn_part1, fn_part2, fn_part3, fn_part4, WordCmp.andi_at, IntOp.andi_eq_one] at h
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h
  exact ⟨real_of_all _ _ _ _ h0, real_of_all _ _ _ _ h1, real_of_all _ _ _ _ h2, real_of_all _ _ _ _ h3, real_of_all _ _ _ _ h4, real_of_all _ _ _ _ h5, real_of_all _ _ _ _ h6, real_of_all _ _ _ _ h7, real_of_all _ _ _ _ h8, real_of_all _ _ _ _ h9, real_of_all _ _ _ _ h10, real_of_all _ _ _ _ h11, real_of_all _ _ _ _ h12, real_of_all _ _ _ _ h13, real_of_all _ _ _ _ h14⟩

end Cert.Pre_finite

end
-- ==== Proof.Value.Equal.lean ====
/- The kernel and the reference over the reals leave the same result when the arrays of weights, inputs and states are finite. -/
module

public import proofs.«01_k».proof.Defs
public import proofs.«01_k».proof.Proof.Claims
public import proofs.«01_k».proof.Proof.Value.Kernel
public import proofs.«01_k».proof.Proof.Value.RefEntry
public import proofs.«01_k».proof.Proof.Value.Finite

@[expose] public section

set_option maxRecDepth 16384

noncomputable section

namespace Cert.Proof

open Cert.Value
open Idealize.ShloMosaic Idealize.ShloMosaic.TcCoe Idealize.ShloMosaic.StableHlo Idealize.ShloMosaic.HostLoop
open Idealize.SL.Sem

/-- A buffer of the kernel's launch memory. -/
abbrev kArg (m : (ℓ : Loc Cert.KernelIdeal.nD Cert.KernelIdeal.τ Cert.KernelIdeal.sig) → Buf (Elt Ideal) ℓ) (c : Dev Cert.KernelIdeal.nD) (b : Ref Cert.KernelIdeal.sig .tc) :=
  m ((c.tc : Thread Cert.KernelIdeal.nD Cert.KernelIdeal.τ).loc b)

/-- A buffer of the reference's. -/
abbrev rArg (m : (ℓ : Loc Cert.ReferenceIdeal.nD Cert.ReferenceIdeal.τ Cert.ReferenceIdeal.sig) → Buf (Elt Ideal) ℓ) (c : Dev Cert.ReferenceIdeal.nD) (b : Ref Cert.ReferenceIdeal.sig .tc) :=
  m ((c.tc : Thread Cert.ReferenceIdeal.nD Cert.ReferenceIdeal.τ).loc b)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal in
/-- Every row's perceptron output is a real when the arrays it reads are. -/
theorem mlpRow_real {X : FVec Ideal S8192x8 .f32} {W1 : FVec Ideal S64x8 .f32} {b1 : FVec Ideal S64 .f32} {W2 : FVec Ideal S128x64 .f32} {b2 : FVec Ideal S128 .f32}
    {W3 : FVec Ideal S4x128 .f32} {b3 : FVec Ideal S4 .f32} {W4 : FVec Ideal S1x4 .f32} {b4 : FVec Ideal S1 .f32} (hX : ∀ i, IsReal (X i)) (h1 : ∀ i, IsReal (W1 i))
    (g1 : ∀ i, IsReal (b1 i)) (h2 : ∀ i, IsReal (W2 i)) (g2 : ∀ i, IsReal (b2 i)) (h3 : ∀ i, IsReal (W3 i)) (g3 : ∀ i, IsReal (b3 i)) (h4 : ∀ i, IsReal (W4 i))
    (g4 : ∀ i, IsReal (b4 i)) (r : Fin 8192) : IsReal (mlpRow X W1 b1 W2 b2 W3 b3 W4 b4 r) :=
  IsReal.dense (fun _ => IsReal.dense (fun _ => IsReal.dense (fun _ => IsReal.dense (fun _ => hX _) (fun _ => h1 _) (g1 _)) (fun _ => h2 _) (g2 _)) (fun _ => h3 _) (g3 _))
    (fun _ => h4 _) (g4 _)

open Cert.KernelIdeal in
/-- Equal arrays give equal perceptrons. -/
theorem mlpRow_eq {X X' : FVec Ideal S8192x8 .f32} {W1 W1' : FVec Ideal S64x8 .f32} {b1 b1' : FVec Ideal S64 .f32} {W2 W2' : FVec Ideal S128x64 .f32} {b2 b2' : FVec Ideal S128 .f32}
    {W3 W3' : FVec Ideal S4x128 .f32} {b3 b3' : FVec Ideal S4 .f32} {W4 W4' : FVec Ideal S1x4 .f32} {b4 b4' : FVec Ideal S1 .f32} (hX : X = X') (h1 : W1 = W1') (g1 : b1 = b1')
    (h2 : W2 = W2') (g2 : b2 = b2') (h3 : W3 = W3') (g3 : b3 = b3') (h4 : W4 = W4') (g4 : b4 = b4') (r : Fin 8192) :
    mlpRow X W1 b1 W2 b2 W3 b3 W4 b4 r = mlpRow X' W1' b1' W2' b2' W3' b3' W4' b4' r := by
  subst hX h1 g1 h2 g2 h3 g3 h4 g4; rfl

/-- From equal arguments, finite as the precondition says, the kernel's result is the reference's. -/
theorem equal (hpre : Cert.Pre_KernelIdeal_finite m) (c : Dev Cert.KernelIdeal.nD)
    (g0 : rArg m' c Cert.ReferenceIdeal.main_arg0 = kArg m c Cert.KernelIdeal.main_arg0) (g1 : rArg m' c Cert.ReferenceIdeal.main_arg1 = kArg m c Cert.KernelIdeal.main_arg1)
    (g2 : rArg m' c Cert.ReferenceIdeal.main_arg2 = kArg m c Cert.KernelIdeal.main_arg2) (g3 : rArg m' c Cert.ReferenceIdeal.main_arg3 = kArg m c Cert.KernelIdeal.main_arg3)
    (g4 : rArg m' c Cert.ReferenceIdeal.main_arg4 = kArg m c Cert.KernelIdeal.main_arg4) (g5 : rArg m' c Cert.ReferenceIdeal.main_arg5 = kArg m c Cert.KernelIdeal.main_arg5)
    (g6 : rArg m' c Cert.ReferenceIdeal.main_arg6 = kArg m c Cert.KernelIdeal.main_arg6) (g7 : rArg m' c Cert.ReferenceIdeal.main_arg7 = kArg m c Cert.KernelIdeal.main_arg7)
    (g8 : rArg m' c Cert.ReferenceIdeal.main_arg8 = kArg m c Cert.KernelIdeal.main_arg8) (g9 : rArg m' c Cert.ReferenceIdeal.main_arg9 = kArg m c Cert.KernelIdeal.main_arg9)
    (g10 : rArg m' c Cert.ReferenceIdeal.main_arg10 = kArg m c Cert.KernelIdeal.main_arg10) (g11 : rArg m' c Cert.ReferenceIdeal.main_arg11 = kArg m c Cert.KernelIdeal.main_arg11)
    (g12 : rArg m' c Cert.ReferenceIdeal.main_arg12 = kArg m c Cert.KernelIdeal.main_arg12) (g13 : rArg m' c Cert.ReferenceIdeal.main_arg13 = kArg m c Cert.KernelIdeal.main_arg13)
    (g14 : rArg m' c Cert.ReferenceIdeal.main_arg14 = kArg m c Cert.KernelIdeal.main_arg14) (g15 : rArg m' c Cert.ReferenceIdeal.main_arg15 = kArg m c Cert.KernelIdeal.main_arg15)
    (g16 : rArg m' c Cert.ReferenceIdeal.main_arg16 = kArg m c Cert.KernelIdeal.main_arg16) :
    (Cert.ReferenceIdeal.Value.out_main_v48 (Cert.ReferenceIdeal.Value.STEP^[1024] (entryContents Cert.ReferenceIdeal.Value.preI m' c)) : FVec Ideal Cert.KernelIdeal.S8192x1024 .f32)
      = (Cert.KernelIdeal.Hand.X4 m c Cert.KernelIdeal.main_v21 : FVec Ideal Cert.KernelIdeal.S8192x1024 .f32) := by
  obtain ⟨r0, r1, r2, r3, r4, r5, r6, r7, r8, r9, r10, r11, r12, r13, r14⟩ := Cert.Pre_finite.real_of_fn _ _ _ _ _ _ _ _ _ _ _ _ _ _ _ _ _ (hpre c)
  choose wi hi using fun k : Fin 4 => r11 (ix2 k 0)
  choose wh hh using fun k : Fin 4 => r13 (ix2 k 0)
  choose b hb using fun k : Fin 4 => (r12 (ix1 k)).add (r14 (ix1 k))
  choose z hz using mlpRow_real r0 r3 r4 r5 r6 r7 r8 r9 r10
  choose h h1 using fun R : Fin 8192 => r1 (ix2 R 0)
  choose c0 h2 using fun R : Fin 8192 => r2 (ix2 R 0)
  funext i
  idx_vars i
  refine (Cert.ReferenceIdeal.Hand.result_ref m' c ⟨wi, wh, b⟩ (fun k => (congrFun g11 _).trans (hi k)) (fun k => (congrFun g13 _).trans (hh k))
    (fun k => (congrArg₂ (fun x y => addf (F := Ideal) (φ := .f32) (s := Cert.KernelIdeal.S4) x y (ix1 k)) g12 g14).trans (hb k)) i0 (z i0) (h i0) (c0 i0)
    ((mlpRow_eq g0 g3 g4 g5 g6 g7 g8 g9 g10 i0).trans (hz i0)) ((congrFun g1 _).trans (h1 i0)) ((congrFun g2 _).trans (h2 i0)) i1).trans ?_
  refine Eq.trans ?_ (Cert.KernelIdeal.Value.result_kernel m c ⟨wi, wh, b⟩ hi hh hb z h c0 hz h1 h2 i0 i1).symm
  exact congrArg₂ _ (Finset.sum_congr rfl fun q _ => congrArg₂ _ rfl (congrFun g15 _)) (congrFun g16 _)

/-- The kernel's frame, of finite arguments. -/
theorem frame_ideal_finite : Cert.quiescent_KernelIdeal_pre_finite := fun m ρ _ => frame_ideal m ρ trivial

/-- The reference's frame, of finite arguments. -/
theorem frame_reference_finite : Cert.quiescent_ReferenceIdeal_pre_finite := fun m ρ _ => frame_reference m ρ trivial

/-- Over the reals, from the same finite arguments, the kernel and the reference leave the same result. -/
theorem algebraic : Cert.algebraic_KernelIdeal_ReferenceIdeal_pre_finite := by
  intro m ρ m' ρ' hpre hagree
  refine ⟨fun c => Cert.KernelIdeal.Hand.X4 m c Cert.KernelIdeal.main_v21, (θ_run Cert.KernelIdeal.defs _ _).mono (fun r h c => ?_) (Cert.KernelIdeal.Hand.run_args m ρ),
    (θ_run Cert.ReferenceIdeal.defs _ _).mono (fun r h c => ⟨(h c).1.trans ?_, (h c).2⟩) (Cert.ReferenceIdeal.Value.run (F := Ideal) m' ρ')⟩
  · have k := (h.1 c).2
    exact ⟨(h.1 c).1, k _ (by decide), k _ (by decide), k _ (by decide), k _ (by decide), k _ (by decide), k _ (by decide), k _ (by decide), k _ (by decide),
      k _ (by decide), k _ (by decide), k _ (by decide), k _ (by decide), k _ (by decide), k _ (by decide), k _ (by decide), k _ (by decide), k _ (by decide)⟩
  · obtain ⟨g0, g1, g2, g3, g4, g5, g6, g7, g8, g9, g10, g11, g12, g13, g14, g15, g16⟩ := hagree c
    exact equal m m' hpre c g0 g1 g2 g3 g4 g5 g6 g7 g8 g9 g10 g11 g12 g13 g14 g15 g16

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.Value.Equal

@[expose] public section

noncomputable section

namespace Cert.Proof

/-- The claims together. -/
theorem claim : Cert.Claim :=
  ⟨Cert.Kernel.Gen.facts, Cert.KernelIdeal.Gen.facts, Cert.ReferenceIdeal.Gen.facts, Cert.Pre_finite.facts, frame_kernel, frame_ideal, frame_ideal_finite,
    frame_reference, frame_reference_finite, preserves, algebraic⟩

end Cert.Proof

end
